-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "neg" .f32 0xFF61B1E6#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 32768]⟩ 1 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S256x8 : Shape := ⟨2, ![256, 8]⟩
abbrev S32x256x8 : Shape := ⟨3, ![32, 256, 8]⟩
abbrev S32 : Shape := ⟨1, ![32]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x256 : Shape := ⟨2, ![256, 256]⟩

abbrev nBuf : Space → Nat
  | .hbm => 2
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S256x8, .f32⟩
  | .local _ .vmem, ⟨3, _⟩ => ⟨S32x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v500 : Index := Scalar.indexCast v2
  let c0_310 : Index := 0#32
  let c0_311 : Index := 0#32
  ![v500.toNat, 0, 0]
def k0_off2 (d0 : Dev nD) (c1_i32_312 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v504 : BitVec 32 := Scalar.addi v2 c1_i32_312
  let c32_i32_313 : BitVec 32 := 32#32
  let c0_i32_314 : BitVec 32 := 0#32
  let v505 : BitVec 1 := Scalar.cmpi .eq c32_i32_313 c0_i32_314
  let c1_i32_315 : BitVec 32 := 1#32
  let v506 : BitVec 32 := Scalar.select v505 c1_i32_315 c32_i32_313
  let v507 : BitVec 32 := Scalar.remsi v504 v506
  let c0_i32_317 : BitVec 32 := 0#32
  let v509 : BitVec 1 := Scalar.cmpi .slt v507 c0_i32_317
  let c0_i32_318 : BitVec 32 := 0#32
  let v510 : BitVec 1 := Scalar.cmpi .slt v506 c0_i32_318
  let v511 : BitVec 1 := Scalar.xori v509 v510
  let c0_i32_316 : BitVec 32 := 0#32
  let v508 : BitVec 1 := Scalar.cmpi .ne v507 c0_i32_316
  let v512 : BitVec 1 := Scalar.andi v511 v508
  let v513 : BitVec 32 := Scalar.addi v507 v506
  let v514 : BitVec 32 := Scalar.select v512 v513 v507
  ![v514.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_321 : BitVec 32 := 0#32
  let c0_i32_322 : BitVec 32 := 0#32
  ![v2.toNat, 0, 0]
def k0_dev32 (d0 : Dev nD) : Nat :=
  let c0_i32_320 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_312 : BitVec 32 := 1#32
  let v504 : BitVec 32 := Scalar.addi v2 c1_i32_312
  let c32_i32_313 : BitVec 32 := 32#32
  let c0_i32_314 : BitVec 32 := 0#32
  let v505 : BitVec 1 := Scalar.cmpi .eq c32_i32_313 c0_i32_314
  let c1_i32_315 : BitVec 32 := 1#32
  let v506 : BitVec 32 := Scalar.select v505 c1_i32_315 c32_i32_313
  let v507 : BitVec 32 := Scalar.remsi v504 v506
  let c0_i32_317 : BitVec 32 := 0#32
  let v509 : BitVec 1 := Scalar.cmpi .slt v507 c0_i32_317
  let c0_i32_318 : BitVec 32 := 0#32
  let v510 : BitVec 1 := Scalar.cmpi .slt v506 c0_i32_318
  let v511 : BitVec 1 := Scalar.xori v509 v510
  let c0_i32_316 : BitVec 32 := 0#32
  let v508 : BitVec 1 := Scalar.cmpi .ne v507 c0_i32_316
  let v512 : BitVec 1 := Scalar.andi v511 v508
  let v513 : BitVec 32 := Scalar.addi v507 v506
  let v514 : BitVec 32 := Scalar.select v512 v513 v507
  let c1_i32_319 : BitVec 32 := 1#32
  let v515 : BitVec 32 := Scalar.muli v514 c1_i32_319
  let v516 : BitVec 32 := Scalar.addi c0_i32_320 v515
  v516.toNat
def k0_dev33 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_323 : BitVec 32 := 2#32
  let v523 : BitVec 32 := Scalar.addi v2 c2_i32_323
  let c32_i32_324 : BitVec 32 := 32#32
  let c0_i32_325 : BitVec 32 := 0#32
  let v524 : BitVec 1 := Scalar.cmpi .eq c32_i32_324 c0_i32_325
  let c1_i32_326 : BitVec 32 := 1#32
  let v525 : BitVec 32 := Scalar.select v524 c1_i32_326 c32_i32_324
  let v526 : BitVec 32 := Scalar.remsi v523 v525
  let c0_i32_328 : BitVec 32 := 0#32
  let v528 : BitVec 1 := Scalar.cmpi .slt v526 c0_i32_328
  let c0_i32_329 : BitVec 32 := 0#32
  let v529 : BitVec 1 := Scalar.cmpi .slt v525 c0_i32_329
  let v530 : BitVec 1 := Scalar.xori v528 v529
  let c0_i32_327 : BitVec 32 := 0#32
  let v527 : BitVec 1 := Scalar.cmpi .ne v526 c0_i32_327
  let v531 : BitVec 1 := Scalar.andi v530 v527
  let v532 : BitVec 32 := Scalar.addi v526 v525
  let v533 : BitVec 32 := Scalar.select v531 v532 v526
  let c1_i32_330 : BitVec 32 := 1#32
  let v534 : BitVec 32 := Scalar.muli v533 c1_i32_330
  let v535 : BitVec 32 := Scalar.addi c0_i32_331 v534
  v535.toNat
def k0_dev34 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_334 : BitVec 32 := 3#32
  let v542 : BitVec 32 := Scalar.addi v2 c3_i32_334
  let c32_i32_335 : BitVec 32 := 32#32
  let c0_i32_336 : BitVec 32 := 0#32
  let v543 : BitVec 1 := Scalar.cmpi .eq c32_i32_335 c0_i32_336
  let c1_i32_337 : BitVec 32 := 1#32
  let v544 : BitVec 32 := Scalar.select v543 c1_i32_337 c32_i32_335
  let v545 : BitVec 32 := Scalar.remsi v542 v544
  let c0_i32_339 : BitVec 32 := 0#32
  let v547 : BitVec 1 := Scalar.cmpi .slt v545 c0_i32_339
  let c0_i32_340 : BitVec 32 := 0#32
  let v548 : BitVec 1 := Scalar.cmpi .slt v544 c0_i32_340
  let v549 : BitVec 1 := Scalar.xori v547 v548
  let c0_i32_338 : BitVec 32 := 0#32
  let v546 : BitVec 1 := Scalar.cmpi .ne v545 c0_i32_338
  let v550 : BitVec 1 := Scalar.andi v549 v546
  let v551 : BitVec 32 := Scalar.addi v545 v544
  let v552 : BitVec 32 := Scalar.select v550 v551 v545
  let c1_i32_341 : BitVec 32 := 1#32
  let v553 : BitVec 32 := Scalar.muli v552 c1_i32_341
  let v554 : BitVec 32 := Scalar.addi c0_i32_342 v553
  v554.toNat
def k0_dev35 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_345 : BitVec 32 := 4#32
  let v561 : BitVec 32 := Scalar.addi v2 c4_i32_345
  let c32_i32_346 : BitVec 32 := 32#32
  let c0_i32_347 : BitVec 32 := 0#32
  let v562 : BitVec 1 := Scalar.cmpi .eq c32_i32_346 c0_i32_347
  let c1_i32_348 : BitVec 32 := 1#32
  let v563 : BitVec 32 := Scalar.select v562 c1_i32_348 c32_i32_346
  let v564 : BitVec 32 := Scalar.remsi v561 v563
  let c0_i32_350 : BitVec 32 := 0#32
  let v566 : BitVec 1 := Scalar.cmpi .slt v564 c0_i32_350
  let c0_i32_351 : BitVec 32 := 0#32
  let v567 : BitVec 1 := Scalar.cmpi .slt v563 c0_i32_351
  let v568 : BitVec 1 := Scalar.xori v566 v567
  let c0_i32_349 : BitVec 32 := 0#32
  let v565 : BitVec 1 := Scalar.cmpi .ne v564 c0_i32_349
  let v569 : BitVec 1 := Scalar.andi v568 v565
  let v570 : BitVec 32 := Scalar.addi v564 v563
  let v571 : BitVec 32 := Scalar.select v569 v570 v564
  let c1_i32_352 : BitVec 32 := 1#32
  let v572 : BitVec 32 := Scalar.muli v571 c1_i32_352
  let v573 : BitVec 32 := Scalar.addi c0_i32_353 v572
  v573.toNat
def k0_dev36 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_356 : BitVec 32 := 5#32
  let v580 : BitVec 32 := Scalar.addi v2 c5_i32_356
  let c32_i32_357 : BitVec 32 := 32#32
  let c0_i32_358 : BitVec 32 := 0#32
  let v581 : BitVec 1 := Scalar.cmpi .eq c32_i32_357 c0_i32_358
  let c1_i32_359 : BitVec 32 := 1#32
  let v582 : BitVec 32 := Scalar.select v581 c1_i32_359 c32_i32_357
  let v583 : BitVec 32 := Scalar.remsi v580 v582
  let c0_i32_361 : BitVec 32 := 0#32
  let v585 : BitVec 1 := Scalar.cmpi .slt v583 c0_i32_361
  let c0_i32_362 : BitVec 32 := 0#32
  let v586 : BitVec 1 := Scalar.cmpi .slt v582 c0_i32_362
  let v587 : BitVec 1 := Scalar.xori v585 v586
  let c0_i32_360 : BitVec 32 := 0#32
  let v584 : BitVec 1 := Scalar.cmpi .ne v583 c0_i32_360
  let v588 : BitVec 1 := Scalar.andi v587 v584
  let v589 : BitVec 32 := Scalar.addi v583 v582
  let v590 : BitVec 32 := Scalar.select v588 v589 v583
  let c1_i32_363 : BitVec 32 := 1#32
  let v591 : BitVec 32 := Scalar.muli v590 c1_i32_363
  let v592 : BitVec 32 := Scalar.addi c0_i32_364 v591
  v592.toNat
def k0_dev37 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_367 : BitVec 32 := 6#32
  let v599 : BitVec 32 := Scalar.addi v2 c6_i32_367
  let c32_i32_368 : BitVec 32 := 32#32
  let c0_i32_369 : BitVec 32 := 0#32
  let v600 : BitVec 1 := Scalar.cmpi .eq c32_i32_368 c0_i32_369
  let c1_i32_370 : BitVec 32 := 1#32
  let v601 : BitVec 32 := Scalar.select v600 c1_i32_370 c32_i32_368
  let v602 : BitVec 32 := Scalar.remsi v599 v601
  let c0_i32_372 : BitVec 32 := 0#32
  let v604 : BitVec 1 := Scalar.cmpi .slt v602 c0_i32_372
  let c0_i32_373 : BitVec 32 := 0#32
  let v605 : BitVec 1 := Scalar.cmpi .slt v601 c0_i32_373
  let v606 : BitVec 1 := Scalar.xori v604 v605
  let c0_i32_371 : BitVec 32 := 0#32
  let v603 : BitVec 1 := Scalar.cmpi .ne v602 c0_i32_371
  let v607 : BitVec 1 := Scalar.andi v606 v603
  let v608 : BitVec 32 := Scalar.addi v602 v601
  let v609 : BitVec 32 := Scalar.select v607 v608 v602
  let c1_i32_374 : BitVec 32 := 1#32
  let v610 : BitVec 32 := Scalar.muli v609 c1_i32_374
  let v611 : BitVec 32 := Scalar.addi c0_i32_375 v610
  v611.toNat
def k0_dev38 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_378 : BitVec 32 := 7#32
  let v618 : BitVec 32 := Scalar.addi v2 c7_i32_378
  let c32_i32_379 : BitVec 32 := 32#32
  let c0_i32_380 : BitVec 32 := 0#32
  let v619 : BitVec 1 := Scalar.cmpi .eq c32_i32_379 c0_i32_380
  let c1_i32_381 : BitVec 32 := 1#32
  let v620 : BitVec 32 := Scalar.select v619 c1_i32_381 c32_i32_379
  let v621 : BitVec 32 := Scalar.remsi v618 v620
  let c0_i32_383 : BitVec 32 := 0#32
  let v623 : BitVec 1 := Scalar.cmpi .slt v621 c0_i32_383
  let c0_i32_384 : BitVec 32 := 0#32
  let v624 : BitVec 1 := Scalar.cmpi .slt v620 c0_i32_384
  let v625 : BitVec 1 := Scalar.xori v623 v624
  let c0_i32_382 : BitVec 32 := 0#32
  let v622 : BitVec 1 := Scalar.cmpi .ne v621 c0_i32_382
  let v626 : BitVec 1 := Scalar.andi v625 v622
  let v627 : BitVec 32 := Scalar.addi v621 v620
  let v628 : BitVec 32 := Scalar.select v626 v627 v621
  let c1_i32_385 : BitVec 32 := 1#32
  let v629 : BitVec 32 := Scalar.muli v628 c1_i32_385
  let v630 : BitVec 32 := Scalar.addi c0_i32_386 v629
  v630.toNat
def k0_dev39 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_389 : BitVec 32 := 8#32
  let v637 : BitVec 32 := Scalar.addi v2 c8_i32_389
  let c32_i32_390 : BitVec 32 := 32#32
  let c0_i32_391 : BitVec 32 := 0#32
  let v638 : BitVec 1 := Scalar.cmpi .eq c32_i32_390 c0_i32_391
  let c1_i32_392 : BitVec 32 := 1#32
  let v639 : BitVec 32 := Scalar.select v638 c1_i32_392 c32_i32_390
  let v640 : BitVec 32 := Scalar.remsi v637 v639
  let c0_i32_394 : BitVec 32 := 0#32
  let v642 : BitVec 1 := Scalar.cmpi .slt v640 c0_i32_394
  let c0_i32_395 : BitVec 32 := 0#32
  let v643 : BitVec 1 := Scalar.cmpi .slt v639 c0_i32_395
  let v644 : BitVec 1 := Scalar.xori v642 v643
  let c0_i32_393 : BitVec 32 := 0#32
  let v641 : BitVec 1 := Scalar.cmpi .ne v640 c0_i32_393
  let v645 : BitVec 1 := Scalar.andi v644 v641
  let v646 : BitVec 32 := Scalar.addi v640 v639
  let v647 : BitVec 32 := Scalar.select v645 v646 v640
  let c1_i32_396 : BitVec 32 := 1#32
  let v648 : BitVec 32 := Scalar.muli v647 c1_i32_396
  let v649 : BitVec 32 := Scalar.addi c0_i32_397 v648
  v649.toNat
def k0_dev40 (d0 : Dev nD) : Nat :=
  let c0_i32_408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_400 : BitVec 32 := 9#32
  let v656 : BitVec 32 := Scalar.addi v2 c9_i32_400
  let c32_i32_401 : BitVec 32 := 32#32
  let c0_i32_402 : BitVec 32 := 0#32
  let v657 : BitVec 1 := Scalar.cmpi .eq c32_i32_401 c0_i32_402
  let c1_i32_403 : BitVec 32 := 1#32
  let v658 : BitVec 32 := Scalar.select v657 c1_i32_403 c32_i32_401
  let v659 : BitVec 32 := Scalar.remsi v656 v658
  let c0_i32_405 : BitVec 32 := 0#32
  let v661 : BitVec 1 := Scalar.cmpi .slt v659 c0_i32_405
  let c0_i32_406 : BitVec 32 := 0#32
  let v662 : BitVec 1 := Scalar.cmpi .slt v658 c0_i32_406
  let v663 : BitVec 1 := Scalar.xori v661 v662
  let c0_i32_404 : BitVec 32 := 0#32
  let v660 : BitVec 1 := Scalar.cmpi .ne v659 c0_i32_404
  let v664 : BitVec 1 := Scalar.andi v663 v660
  let v665 : BitVec 32 := Scalar.addi v659 v658
  let v666 : BitVec 32 := Scalar.select v664 v665 v659
  let c1_i32_407 : BitVec 32 := 1#32
  let v667 : BitVec 32 := Scalar.muli v666 c1_i32_407
  let v668 : BitVec 32 := Scalar.addi c0_i32_408 v667
  v668.toNat
def k0_dev41 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_411 : BitVec 32 := 10#32
  let v675 : BitVec 32 := Scalar.addi v2 c10_i32_411
  let c32_i32_412 : BitVec 32 := 32#32
  let c0_i32_413 : BitVec 32 := 0#32
  let v676 : BitVec 1 := Scalar.cmpi .eq c32_i32_412 c0_i32_413
  let c1_i32_414 : BitVec 32 := 1#32
  let v677 : BitVec 32 := Scalar.select v676 c1_i32_414 c32_i32_412
  let v678 : BitVec 32 := Scalar.remsi v675 v677
  let c0_i32_416 : BitVec 32 := 0#32
  let v680 : BitVec 1 := Scalar.cmpi .slt v678 c0_i32_416
  let c0_i32_417 : BitVec 32 := 0#32
  let v681 : BitVec 1 := Scalar.cmpi .slt v677 c0_i32_417
  let v682 : BitVec 1 := Scalar.xori v680 v681
  let c0_i32_415 : BitVec 32 := 0#32
  let v679 : BitVec 1 := Scalar.cmpi .ne v678 c0_i32_415
  let v683 : BitVec 1 := Scalar.andi v682 v679
  let v684 : BitVec 32 := Scalar.addi v678 v677
  let v685 : BitVec 32 := Scalar.select v683 v684 v678
  let c1_i32_418 : BitVec 32 := 1#32
  let v686 : BitVec 32 := Scalar.muli v685 c1_i32_418
  let v687 : BitVec 32 := Scalar.addi c0_i32_419 v686
  v687.toNat
def k0_dev42 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_422 : BitVec 32 := 11#32
  let v694 : BitVec 32 := Scalar.addi v2 c11_i32_422
  let c32_i32_423 : BitVec 32 := 32#32
  let c0_i32_424 : BitVec 32 := 0#32
  let v695 : BitVec 1 := Scalar.cmpi .eq c32_i32_423 c0_i32_424
  let c1_i32_425 : BitVec 32 := 1#32
  let v696 : BitVec 32 := Scalar.select v695 c1_i32_425 c32_i32_423
  let v697 : BitVec 32 := Scalar.remsi v694 v696
  let c0_i32_427 : BitVec 32 := 0#32
  let v699 : BitVec 1 := Scalar.cmpi .slt v697 c0_i32_427
  let c0_i32_428 : BitVec 32 := 0#32
  let v700 : BitVec 1 := Scalar.cmpi .slt v696 c0_i32_428
  let v701 : BitVec 1 := Scalar.xori v699 v700
  let c0_i32_426 : BitVec 32 := 0#32
  let v698 : BitVec 1 := Scalar.cmpi .ne v697 c0_i32_426
  let v702 : BitVec 1 := Scalar.andi v701 v698
  let v703 : BitVec 32 := Scalar.addi v697 v696
  let v704 : BitVec 32 := Scalar.select v702 v703 v697
  let c1_i32_429 : BitVec 32 := 1#32
  let v705 : BitVec 32 := Scalar.muli v704 c1_i32_429
  let v706 : BitVec 32 := Scalar.addi c0_i32_430 v705
  v706.toNat
def k0_dev43 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_433 : BitVec 32 := 12#32
  let v713 : BitVec 32 := Scalar.addi v2 c12_i32_433
  let c32_i32_434 : BitVec 32 := 32#32
  let c0_i32_435 : BitVec 32 := 0#32
  let v714 : BitVec 1 := Scalar.cmpi .eq c32_i32_434 c0_i32_435
  let c1_i32_436 : BitVec 32 := 1#32
  let v715 : BitVec 32 := Scalar.select v714 c1_i32_436 c32_i32_434
  let v716 : BitVec 32 := Scalar.remsi v713 v715
  let c0_i32_438 : BitVec 32 := 0#32
  let v718 : BitVec 1 := Scalar.cmpi .slt v716 c0_i32_438
  let c0_i32_439 : BitVec 32 := 0#32
  let v719 : BitVec 1 := Scalar.cmpi .slt v715 c0_i32_439
  let v720 : BitVec 1 := Scalar.xori v718 v719
  let c0_i32_437 : BitVec 32 := 0#32
  let v717 : BitVec 1 := Scalar.cmpi .ne v716 c0_i32_437
  let v721 : BitVec 1 := Scalar.andi v720 v717
  let v722 : BitVec 32 := Scalar.addi v716 v715
  let v723 : BitVec 32 := Scalar.select v721 v722 v716
  let c1_i32_440 : BitVec 32 := 1#32
  let v724 : BitVec 32 := Scalar.muli v723 c1_i32_440
  let v725 : BitVec 32 := Scalar.addi c0_i32_441 v724
  v725.toNat
def k0_dev44 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_444 : BitVec 32 := 13#32
  let v732 : BitVec 32 := Scalar.addi v2 c13_i32_444
  let c32_i32_445 : BitVec 32 := 32#32
  let c0_i32_446 : BitVec 32 := 0#32
  let v733 : BitVec 1 := Scalar.cmpi .eq c32_i32_445 c0_i32_446
  let c1_i32_447 : BitVec 32 := 1#32
  let v734 : BitVec 32 := Scalar.select v733 c1_i32_447 c32_i32_445
  let v735 : BitVec 32 := Scalar.remsi v732 v734
  let c0_i32_449 : BitVec 32 := 0#32
  let v737 : BitVec 1 := Scalar.cmpi .slt v735 c0_i32_449
  let c0_i32_450 : BitVec 32 := 0#32
  let v738 : BitVec 1 := Scalar.cmpi .slt v734 c0_i32_450
  let v739 : BitVec 1 := Scalar.xori v737 v738
  let c0_i32_448 : BitVec 32 := 0#32
  let v736 : BitVec 1 := Scalar.cmpi .ne v735 c0_i32_448
  let v740 : BitVec 1 := Scalar.andi v739 v736
  let v741 : BitVec 32 := Scalar.addi v735 v734
  let v742 : BitVec 32 := Scalar.select v740 v741 v735
  let c1_i32_451 : BitVec 32 := 1#32
  let v743 : BitVec 32 := Scalar.muli v742 c1_i32_451
  let v744 : BitVec 32 := Scalar.addi c0_i32_452 v743
  v744.toNat
def k0_dev45 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_455 : BitVec 32 := 14#32
  let v751 : BitVec 32 := Scalar.addi v2 c14_i32_455
  let c32_i32_456 : BitVec 32 := 32#32
  let c0_i32_457 : BitVec 32 := 0#32
  let v752 : BitVec 1 := Scalar.cmpi .eq c32_i32_456 c0_i32_457
  let c1_i32_458 : BitVec 32 := 1#32
  let v753 : BitVec 32 := Scalar.select v752 c1_i32_458 c32_i32_456
  let v754 : BitVec 32 := Scalar.remsi v751 v753
  let c0_i32_460 : BitVec 32 := 0#32
  let v756 : BitVec 1 := Scalar.cmpi .slt v754 c0_i32_460
  let c0_i32_461 : BitVec 32 := 0#32
  let v757 : BitVec 1 := Scalar.cmpi .slt v753 c0_i32_461
  let v758 : BitVec 1 := Scalar.xori v756 v757
  let c0_i32_459 : BitVec 32 := 0#32
  let v755 : BitVec 1 := Scalar.cmpi .ne v754 c0_i32_459
  let v759 : BitVec 1 := Scalar.andi v758 v755
  let v760 : BitVec 32 := Scalar.addi v754 v753
  let v761 : BitVec 32 := Scalar.select v759 v760 v754
  let c1_i32_462 : BitVec 32 := 1#32
  let v762 : BitVec 32 := Scalar.muli v761 c1_i32_462
  let v763 : BitVec 32 := Scalar.addi c0_i32_463 v762
  v763.toNat
def k0_dev46 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_466 : BitVec 32 := 15#32
  let v770 : BitVec 32 := Scalar.addi v2 c15_i32_466
  let c32_i32_467 : BitVec 32 := 32#32
  let c0_i32_468 : BitVec 32 := 0#32
  let v771 : BitVec 1 := Scalar.cmpi .eq c32_i32_467 c0_i32_468
  let c1_i32_469 : BitVec 32 := 1#32
  let v772 : BitVec 32 := Scalar.select v771 c1_i32_469 c32_i32_467
  let v773 : BitVec 32 := Scalar.remsi v770 v772
  let c0_i32_471 : BitVec 32 := 0#32
  let v775 : BitVec 1 := Scalar.cmpi .slt v773 c0_i32_471
  let c0_i32_472 : BitVec 32 := 0#32
  let v776 : BitVec 1 := Scalar.cmpi .slt v772 c0_i32_472
  let v777 : BitVec 1 := Scalar.xori v775 v776
  let c0_i32_470 : BitVec 32 := 0#32
  let v774 : BitVec 1 := Scalar.cmpi .ne v773 c0_i32_470
  let v778 : BitVec 1 := Scalar.andi v777 v774
  let v779 : BitVec 32 := Scalar.addi v773 v772
  let v780 : BitVec 32 := Scalar.select v778 v779 v773
  let c1_i32_473 : BitVec 32 := 1#32
  let v781 : BitVec 32 := Scalar.muli v780 c1_i32_473
  let v782 : BitVec 32 := Scalar.addi c0_i32_474 v781
  v782.toNat
def k0_dev47 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_477 : BitVec 32 := 16#32
  let v789 : BitVec 32 := Scalar.addi v2 c16_i32_477
  let c32_i32_478 : BitVec 32 := 32#32
  let c0_i32_479 : BitVec 32 := 0#32
  let v790 : BitVec 1 := Scalar.cmpi .eq c32_i32_478 c0_i32_479
  let c1_i32_480 : BitVec 32 := 1#32
  let v791 : BitVec 32 := Scalar.select v790 c1_i32_480 c32_i32_478
  let v792 : BitVec 32 := Scalar.remsi v789 v791
  let c0_i32_482 : BitVec 32 := 0#32
  let v794 : BitVec 1 := Scalar.cmpi .slt v792 c0_i32_482
  let c0_i32_483 : BitVec 32 := 0#32
  let v795 : BitVec 1 := Scalar.cmpi .slt v791 c0_i32_483
  let v796 : BitVec 1 := Scalar.xori v794 v795
  let c0_i32_481 : BitVec 32 := 0#32
  let v793 : BitVec 1 := Scalar.cmpi .ne v792 c0_i32_481
  let v797 : BitVec 1 := Scalar.andi v796 v793
  let v798 : BitVec 32 := Scalar.addi v792 v791
  let v799 : BitVec 32 := Scalar.select v797 v798 v792
  let c1_i32_484 : BitVec 32 := 1#32
  let v800 : BitVec 32 := Scalar.muli v799 c1_i32_484
  let v801 : BitVec 32 := Scalar.addi c0_i32_485 v800
  v801.toNat
def k0_dev48 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_488 : BitVec 32 := 17#32
  let v808 : BitVec 32 := Scalar.addi v2 c17_i32_488
  let c32_i32_489 : BitVec 32 := 32#32
  let c0_i32_490 : BitVec 32 := 0#32
  let v809 : BitVec 1 := Scalar.cmpi .eq c32_i32_489 c0_i32_490
  let c1_i32_491 : BitVec 32 := 1#32
  let v810 : BitVec 32 := Scalar.select v809 c1_i32_491 c32_i32_489
  let v811 : BitVec 32 := Scalar.remsi v808 v810
  let c0_i32_493 : BitVec 32 := 0#32
  let v813 : BitVec 1 := Scalar.cmpi .slt v811 c0_i32_493
  let c0_i32_494 : BitVec 32 := 0#32
  let v814 : BitVec 1 := Scalar.cmpi .slt v810 c0_i32_494
  let v815 : BitVec 1 := Scalar.xori v813 v814
  let c0_i32_492 : BitVec 32 := 0#32
  let v812 : BitVec 1 := Scalar.cmpi .ne v811 c0_i32_492
  let v816 : BitVec 1 := Scalar.andi v815 v812
  let v817 : BitVec 32 := Scalar.addi v811 v810
  let v818 : BitVec 32 := Scalar.select v816 v817 v811
  let c1_i32_495 : BitVec 32 := 1#32
  let v819 : BitVec 32 := Scalar.muli v818 c1_i32_495
  let v820 : BitVec 32 := Scalar.addi c0_i32_496 v819
  v820.toNat
def k0_dev49 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_499 : BitVec 32 := 18#32
  let v827 : BitVec 32 := Scalar.addi v2 c18_i32_499
  let c32_i32_500 : BitVec 32 := 32#32
  let c0_i32_501 : BitVec 32 := 0#32
  let v828 : BitVec 1 := Scalar.cmpi .eq c32_i32_500 c0_i32_501
  let c1_i32_502 : BitVec 32 := 1#32
  let v829 : BitVec 32 := Scalar.select v828 c1_i32_502 c32_i32_500
  let v830 : BitVec 32 := Scalar.remsi v827 v829
  let c0_i32_504 : BitVec 32 := 0#32
  let v832 : BitVec 1 := Scalar.cmpi .slt v830 c0_i32_504
  let c0_i32_505 : BitVec 32 := 0#32
  let v833 : BitVec 1 := Scalar.cmpi .slt v829 c0_i32_505
  let v834 : BitVec 1 := Scalar.xori v832 v833
  let c0_i32_503 : BitVec 32 := 0#32
  let v831 : BitVec 1 := Scalar.cmpi .ne v830 c0_i32_503
  let v835 : BitVec 1 := Scalar.andi v834 v831
  let v836 : BitVec 32 := Scalar.addi v830 v829
  let v837 : BitVec 32 := Scalar.select v835 v836 v830
  let c1_i32_506 : BitVec 32 := 1#32
  let v838 : BitVec 32 := Scalar.muli v837 c1_i32_506
  let v839 : BitVec 32 := Scalar.addi c0_i32_507 v838
  v839.toNat
def k0_dev50 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_510 : BitVec 32 := 19#32
  let v846 : BitVec 32 := Scalar.addi v2 c19_i32_510
  let c32_i32_511 : BitVec 32 := 32#32
  let c0_i32_512 : BitVec 32 := 0#32
  let v847 : BitVec 1 := Scalar.cmpi .eq c32_i32_511 c0_i32_512
  let c1_i32_513 : BitVec 32 := 1#32
  let v848 : BitVec 32 := Scalar.select v847 c1_i32_513 c32_i32_511
  let v849 : BitVec 32 := Scalar.remsi v846 v848
  let c0_i32_515 : BitVec 32 := 0#32
  let v851 : BitVec 1 := Scalar.cmpi .slt v849 c0_i32_515
  let c0_i32_516 : BitVec 32 := 0#32
  let v852 : BitVec 1 := Scalar.cmpi .slt v848 c0_i32_516
  let v853 : BitVec 1 := Scalar.xori v851 v852
  let c0_i32_514 : BitVec 32 := 0#32
  let v850 : BitVec 1 := Scalar.cmpi .ne v849 c0_i32_514
  let v854 : BitVec 1 := Scalar.andi v853 v850
  let v855 : BitVec 32 := Scalar.addi v849 v848
  let v856 : BitVec 32 := Scalar.select v854 v855 v849
  let c1_i32_517 : BitVec 32 := 1#32
  let v857 : BitVec 32 := Scalar.muli v856 c1_i32_517
  let v858 : BitVec 32 := Scalar.addi c0_i32_518 v857
  v858.toNat
def k0_dev51 (d0 : Dev nD) : Nat :=
  let c0_i32_529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_521 : BitVec 32 := 20#32
  let v865 : BitVec 32 := Scalar.addi v2 c20_i32_521
  let c32_i32_522 : BitVec 32 := 32#32
  let c0_i32_523 : BitVec 32 := 0#32
  let v866 : BitVec 1 := Scalar.cmpi .eq c32_i32_522 c0_i32_523
  let c1_i32_524 : BitVec 32 := 1#32
  let v867 : BitVec 32 := Scalar.select v866 c1_i32_524 c32_i32_522
  let v868 : BitVec 32 := Scalar.remsi v865 v867
  let c0_i32_526 : BitVec 32 := 0#32
  let v870 : BitVec 1 := Scalar.cmpi .slt v868 c0_i32_526
  let c0_i32_527 : BitVec 32 := 0#32
  let v871 : BitVec 1 := Scalar.cmpi .slt v867 c0_i32_527
  let v872 : BitVec 1 := Scalar.xori v870 v871
  let c0_i32_525 : BitVec 32 := 0#32
  let v869 : BitVec 1 := Scalar.cmpi .ne v868 c0_i32_525
  let v873 : BitVec 1 := Scalar.andi v872 v869
  let v874 : BitVec 32 := Scalar.addi v868 v867
  let v875 : BitVec 32 := Scalar.select v873 v874 v868
  let c1_i32_528 : BitVec 32 := 1#32
  let v876 : BitVec 32 := Scalar.muli v875 c1_i32_528
  let v877 : BitVec 32 := Scalar.addi c0_i32_529 v876
  v877.toNat
def k0_dev52 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_532 : BitVec 32 := 21#32
  let v884 : BitVec 32 := Scalar.addi v2 c21_i32_532
  let c32_i32_533 : BitVec 32 := 32#32
  let c0_i32_534 : BitVec 32 := 0#32
  let v885 : BitVec 1 := Scalar.cmpi .eq c32_i32_533 c0_i32_534
  let c1_i32_535 : BitVec 32 := 1#32
  let v886 : BitVec 32 := Scalar.select v885 c1_i32_535 c32_i32_533
  let v887 : BitVec 32 := Scalar.remsi v884 v886
  let c0_i32_537 : BitVec 32 := 0#32
  let v889 : BitVec 1 := Scalar.cmpi .slt v887 c0_i32_537
  let c0_i32_538 : BitVec 32 := 0#32
  let v890 : BitVec 1 := Scalar.cmpi .slt v886 c0_i32_538
  let v891 : BitVec 1 := Scalar.xori v889 v890
  let c0_i32_536 : BitVec 32 := 0#32
  let v888 : BitVec 1 := Scalar.cmpi .ne v887 c0_i32_536
  let v892 : BitVec 1 := Scalar.andi v891 v888
  let v893 : BitVec 32 := Scalar.addi v887 v886
  let v894 : BitVec 32 := Scalar.select v892 v893 v887
  let c1_i32_539 : BitVec 32 := 1#32
  let v895 : BitVec 32 := Scalar.muli v894 c1_i32_539
  let v896 : BitVec 32 := Scalar.addi c0_i32_540 v895
  v896.toNat
def k0_dev53 (d0 : Dev nD) : Nat :=
  let c0_i32_551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_543 : BitVec 32 := 22#32
  let v903 : BitVec 32 := Scalar.addi v2 c22_i32_543
  let c32_i32_544 : BitVec 32 := 32#32
  let c0_i32_545 : BitVec 32 := 0#32
  let v904 : BitVec 1 := Scalar.cmpi .eq c32_i32_544 c0_i32_545
  let c1_i32_546 : BitVec 32 := 1#32
  let v905 : BitVec 32 := Scalar.select v904 c1_i32_546 c32_i32_544
  let v906 : BitVec 32 := Scalar.remsi v903 v905
  let c0_i32_548 : BitVec 32 := 0#32
  let v908 : BitVec 1 := Scalar.cmpi .slt v906 c0_i32_548
  let c0_i32_549 : BitVec 32 := 0#32
  let v909 : BitVec 1 := Scalar.cmpi .slt v905 c0_i32_549
  let v910 : BitVec 1 := Scalar.xori v908 v909
  let c0_i32_547 : BitVec 32 := 0#32
  let v907 : BitVec 1 := Scalar.cmpi .ne v906 c0_i32_547
  let v911 : BitVec 1 := Scalar.andi v910 v907
  let v912 : BitVec 32 := Scalar.addi v906 v905
  let v913 : BitVec 32 := Scalar.select v911 v912 v906
  let c1_i32_550 : BitVec 32 := 1#32
  let v914 : BitVec 32 := Scalar.muli v913 c1_i32_550
  let v915 : BitVec 32 := Scalar.addi c0_i32_551 v914
  v915.toNat
def k0_dev54 (d0 : Dev nD) : Nat :=
  let c0_i32_562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_554 : BitVec 32 := 23#32
  let v922 : BitVec 32 := Scalar.addi v2 c23_i32_554
  let c32_i32_555 : BitVec 32 := 32#32
  let c0_i32_556 : BitVec 32 := 0#32
  let v923 : BitVec 1 := Scalar.cmpi .eq c32_i32_555 c0_i32_556
  let c1_i32_557 : BitVec 32 := 1#32
  let v924 : BitVec 32 := Scalar.select v923 c1_i32_557 c32_i32_555
  let v925 : BitVec 32 := Scalar.remsi v922 v924
  let c0_i32_559 : BitVec 32 := 0#32
  let v927 : BitVec 1 := Scalar.cmpi .slt v925 c0_i32_559
  let c0_i32_560 : BitVec 32 := 0#32
  let v928 : BitVec 1 := Scalar.cmpi .slt v924 c0_i32_560
  let v929 : BitVec 1 := Scalar.xori v927 v928
  let c0_i32_558 : BitVec 32 := 0#32
  let v926 : BitVec 1 := Scalar.cmpi .ne v925 c0_i32_558
  let v930 : BitVec 1 := Scalar.andi v929 v926
  let v931 : BitVec 32 := Scalar.addi v925 v924
  let v932 : BitVec 32 := Scalar.select v930 v931 v925
  let c1_i32_561 : BitVec 32 := 1#32
  let v933 : BitVec 32 := Scalar.muli v932 c1_i32_561
  let v934 : BitVec 32 := Scalar.addi c0_i32_562 v933
  v934.toNat
def k0_dev55 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_565 : BitVec 32 := 24#32
  let v941 : BitVec 32 := Scalar.addi v2 c24_i32_565
  let c32_i32_566 : BitVec 32 := 32#32
  let c0_i32_567 : BitVec 32 := 0#32
  let v942 : BitVec 1 := Scalar.cmpi .eq c32_i32_566 c0_i32_567
  let c1_i32_568 : BitVec 32 := 1#32
  let v943 : BitVec 32 := Scalar.select v942 c1_i32_568 c32_i32_566
  let v944 : BitVec 32 := Scalar.remsi v941 v943
  let c0_i32_570 : BitVec 32 := 0#32
  let v946 : BitVec 1 := Scalar.cmpi .slt v944 c0_i32_570
  let c0_i32_571 : BitVec 32 := 0#32
  let v947 : BitVec 1 := Scalar.cmpi .slt v943 c0_i32_571
  let v948 : BitVec 1 := Scalar.xori v946 v947
  let c0_i32_569 : BitVec 32 := 0#32
  let v945 : BitVec 1 := Scalar.cmpi .ne v944 c0_i32_569
  let v949 : BitVec 1 := Scalar.andi v948 v945
  let v950 : BitVec 32 := Scalar.addi v944 v943
  let v951 : BitVec 32 := Scalar.select v949 v950 v944
  let c1_i32_572 : BitVec 32 := 1#32
  let v952 : BitVec 32 := Scalar.muli v951 c1_i32_572
  let v953 : BitVec 32 := Scalar.addi c0_i32_573 v952
  v953.toNat
def k0_dev56 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_576 : BitVec 32 := 25#32
  let v960 : BitVec 32 := Scalar.addi v2 c25_i32_576
  let c32_i32_577 : BitVec 32 := 32#32
  let c0_i32_578 : BitVec 32 := 0#32
  let v961 : BitVec 1 := Scalar.cmpi .eq c32_i32_577 c0_i32_578
  let c1_i32_579 : BitVec 32 := 1#32
  let v962 : BitVec 32 := Scalar.select v961 c1_i32_579 c32_i32_577
  let v963 : BitVec 32 := Scalar.remsi v960 v962
  let c0_i32_581 : BitVec 32 := 0#32
  let v965 : BitVec 1 := Scalar.cmpi .slt v963 c0_i32_581
  let c0_i32_582 : BitVec 32 := 0#32
  let v966 : BitVec 1 := Scalar.cmpi .slt v962 c0_i32_582
  let v967 : BitVec 1 := Scalar.xori v965 v966
  let c0_i32_580 : BitVec 32 := 0#32
  let v964 : BitVec 1 := Scalar.cmpi .ne v963 c0_i32_580
  let v968 : BitVec 1 := Scalar.andi v967 v964
  let v969 : BitVec 32 := Scalar.addi v963 v962
  let v970 : BitVec 32 := Scalar.select v968 v969 v963
  let c1_i32_583 : BitVec 32 := 1#32
  let v971 : BitVec 32 := Scalar.muli v970 c1_i32_583
  let v972 : BitVec 32 := Scalar.addi c0_i32_584 v971
  v972.toNat
def k0_dev57 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_587 : BitVec 32 := 26#32
  let v979 : BitVec 32 := Scalar.addi v2 c26_i32_587
  let c32_i32_588 : BitVec 32 := 32#32
  let c0_i32_589 : BitVec 32 := 0#32
  let v980 : BitVec 1 := Scalar.cmpi .eq c32_i32_588 c0_i32_589
  let c1_i32_590 : BitVec 32 := 1#32
  let v981 : BitVec 32 := Scalar.select v980 c1_i32_590 c32_i32_588
  let v982 : BitVec 32 := Scalar.remsi v979 v981
  let c0_i32_592 : BitVec 32 := 0#32
  let v984 : BitVec 1 := Scalar.cmpi .slt v982 c0_i32_592
  let c0_i32_593 : BitVec 32 := 0#32
  let v985 : BitVec 1 := Scalar.cmpi .slt v981 c0_i32_593
  let v986 : BitVec 1 := Scalar.xori v984 v985
  let c0_i32_591 : BitVec 32 := 0#32
  let v983 : BitVec 1 := Scalar.cmpi .ne v982 c0_i32_591
  let v987 : BitVec 1 := Scalar.andi v986 v983
  let v988 : BitVec 32 := Scalar.addi v982 v981
  let v989 : BitVec 32 := Scalar.select v987 v988 v982
  let c1_i32_594 : BitVec 32 := 1#32
  let v990 : BitVec 32 := Scalar.muli v989 c1_i32_594
  let v991 : BitVec 32 := Scalar.addi c0_i32_595 v990
  v991.toNat
def k0_dev58 (d0 : Dev nD) : Nat :=
  let c0_i32_606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_598 : BitVec 32 := 27#32
  let v998 : BitVec 32 := Scalar.addi v2 c27_i32_598
  let c32_i32_599 : BitVec 32 := 32#32
  let c0_i32_600 : BitVec 32 := 0#32
  let v999 : BitVec 1 := Scalar.cmpi .eq c32_i32_599 c0_i32_600
  let c1_i32_601 : BitVec 32 := 1#32
  let v1000 : BitVec 32 := Scalar.select v999 c1_i32_601 c32_i32_599
  let v1001 : BitVec 32 := Scalar.remsi v998 v1000
  let c0_i32_603 : BitVec 32 := 0#32
  let v1003 : BitVec 1 := Scalar.cmpi .slt v1001 c0_i32_603
  let c0_i32_604 : BitVec 32 := 0#32
  let v1004 : BitVec 1 := Scalar.cmpi .slt v1000 c0_i32_604
  let v1005 : BitVec 1 := Scalar.xori v1003 v1004
  let c0_i32_602 : BitVec 32 := 0#32
  let v1002 : BitVec 1 := Scalar.cmpi .ne v1001 c0_i32_602
  let v1006 : BitVec 1 := Scalar.andi v1005 v1002
  let v1007 : BitVec 32 := Scalar.addi v1001 v1000
  let v1008 : BitVec 32 := Scalar.select v1006 v1007 v1001
  let c1_i32_605 : BitVec 32 := 1#32
  let v1009 : BitVec 32 := Scalar.muli v1008 c1_i32_605
  let v1010 : BitVec 32 := Scalar.addi c0_i32_606 v1009
  v1010.toNat
def k0_dev59 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_609 : BitVec 32 := 28#32
  let v1017 : BitVec 32 := Scalar.addi v2 c28_i32_609
  let c32_i32_610 : BitVec 32 := 32#32
  let c0_i32_611 : BitVec 32 := 0#32
  let v1018 : BitVec 1 := Scalar.cmpi .eq c32_i32_610 c0_i32_611
  let c1_i32_612 : BitVec 32 := 1#32
  let v1019 : BitVec 32 := Scalar.select v1018 c1_i32_612 c32_i32_610
  let v1020 : BitVec 32 := Scalar.remsi v1017 v1019
  let c0_i32_614 : BitVec 32 := 0#32
  let v1022 : BitVec 1 := Scalar.cmpi .slt v1020 c0_i32_614
  let c0_i32_615 : BitVec 32 := 0#32
  let v1023 : BitVec 1 := Scalar.cmpi .slt v1019 c0_i32_615
  let v1024 : BitVec 1 := Scalar.xori v1022 v1023
  let c0_i32_613 : BitVec 32 := 0#32
  let v1021 : BitVec 1 := Scalar.cmpi .ne v1020 c0_i32_613
  let v1025 : BitVec 1 := Scalar.andi v1024 v1021
  let v1026 : BitVec 32 := Scalar.addi v1020 v1019
  let v1027 : BitVec 32 := Scalar.select v1025 v1026 v1020
  let c1_i32_616 : BitVec 32 := 1#32
  let v1028 : BitVec 32 := Scalar.muli v1027 c1_i32_616
  let v1029 : BitVec 32 := Scalar.addi c0_i32_617 v1028
  v1029.toNat
def k0_dev60 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_620 : BitVec 32 := 29#32
  let v1036 : BitVec 32 := Scalar.addi v2 c29_i32_620
  let c32_i32_621 : BitVec 32 := 32#32
  let c0_i32_622 : BitVec 32 := 0#32
  let v1037 : BitVec 1 := Scalar.cmpi .eq c32_i32_621 c0_i32_622
  let c1_i32_623 : BitVec 32 := 1#32
  let v1038 : BitVec 32 := Scalar.select v1037 c1_i32_623 c32_i32_621
  let v1039 : BitVec 32 := Scalar.remsi v1036 v1038
  let c0_i32_625 : BitVec 32 := 0#32
  let v1041 : BitVec 1 := Scalar.cmpi .slt v1039 c0_i32_625
  let c0_i32_626 : BitVec 32 := 0#32
  let v1042 : BitVec 1 := Scalar.cmpi .slt v1038 c0_i32_626
  let v1043 : BitVec 1 := Scalar.xori v1041 v1042
  let c0_i32_624 : BitVec 32 := 0#32
  let v1040 : BitVec 1 := Scalar.cmpi .ne v1039 c0_i32_624
  let v1044 : BitVec 1 := Scalar.andi v1043 v1040
  let v1045 : BitVec 32 := Scalar.addi v1039 v1038
  let v1046 : BitVec 32 := Scalar.select v1044 v1045 v1039
  let c1_i32_627 : BitVec 32 := 1#32
  let v1047 : BitVec 32 := Scalar.muli v1046 c1_i32_627
  let v1048 : BitVec 32 := Scalar.addi c0_i32_628 v1047
  v1048.toNat
def k0_dev61 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_631 : BitVec 32 := 30#32
  let v1055 : BitVec 32 := Scalar.addi v2 c30_i32_631
  let c32_i32_632 : BitVec 32 := 32#32
  let c0_i32_633 : BitVec 32 := 0#32
  let v1056 : BitVec 1 := Scalar.cmpi .eq c32_i32_632 c0_i32_633
  let c1_i32_634 : BitVec 32 := 1#32
  let v1057 : BitVec 32 := Scalar.select v1056 c1_i32_634 c32_i32_632
  let v1058 : BitVec 32 := Scalar.remsi v1055 v1057
  let c0_i32_636 : BitVec 32 := 0#32
  let v1060 : BitVec 1 := Scalar.cmpi .slt v1058 c0_i32_636
  let c0_i32_637 : BitVec 32 := 0#32
  let v1061 : BitVec 1 := Scalar.cmpi .slt v1057 c0_i32_637
  let v1062 : BitVec 1 := Scalar.xori v1060 v1061
  let c0_i32_635 : BitVec 32 := 0#32
  let v1059 : BitVec 1 := Scalar.cmpi .ne v1058 c0_i32_635
  let v1063 : BitVec 1 := Scalar.andi v1062 v1059
  let v1064 : BitVec 32 := Scalar.addi v1058 v1057
  let v1065 : BitVec 32 := Scalar.select v1063 v1064 v1058
  let c1_i32_638 : BitVec 32 := 1#32
  let v1066 : BitVec 32 := Scalar.muli v1065 c1_i32_638
  let v1067 : BitVec 32 := Scalar.addi c0_i32_639 v1066
  v1067.toNat
def k0_dev62 (d0 : Dev nD) : Nat :=
  let c0_i32_650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_642 : BitVec 32 := 31#32
  let v1074 : BitVec 32 := Scalar.addi v2 c31_i32_642
  let c32_i32_643 : BitVec 32 := 32#32
  let c0_i32_644 : BitVec 32 := 0#32
  let v1075 : BitVec 1 := Scalar.cmpi .eq c32_i32_643 c0_i32_644
  let c1_i32_645 : BitVec 32 := 1#32
  let v1076 : BitVec 32 := Scalar.select v1075 c1_i32_645 c32_i32_643
  let v1077 : BitVec 32 := Scalar.remsi v1074 v1076
  let c0_i32_647 : BitVec 32 := 0#32
  let v1079 : BitVec 1 := Scalar.cmpi .slt v1077 c0_i32_647
  let c0_i32_648 : BitVec 32 := 0#32
  let v1080 : BitVec 1 := Scalar.cmpi .slt v1076 c0_i32_648
  let v1081 : BitVec 1 := Scalar.xori v1079 v1080
  let c0_i32_646 : BitVec 32 := 0#32
  let v1078 : BitVec 1 := Scalar.cmpi .ne v1077 c0_i32_646
  let v1082 : BitVec 1 := Scalar.andi v1081 v1078
  let v1083 : BitVec 32 := Scalar.addi v1077 v1076
  let v1084 : BitVec 32 := Scalar.select v1082 v1083 v1077
  let c1_i32_649 : BitVec 32 := 1#32
  let v1085 : BitVec 32 := Scalar.muli v1084 c1_i32_649
  let v1086 : BitVec 32 := Scalar.addi c0_i32_650 v1085
  v1086.toNat
def k0_off5 (d0 : Dev nD) (c1_i32_653 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1093 : BitVec 32 := Scalar.addi v2 c1_i32_653
  let c32_i32_654 : BitVec 32 := 32#32
  let c0_i32_655 : BitVec 32 := 0#32
  let v1094 : BitVec 1 := Scalar.cmpi .eq c32_i32_654 c0_i32_655
  let c1_i32_656 : BitVec 32 := 1#32
  let v1095 : BitVec 32 := Scalar.select v1094 c1_i32_656 c32_i32_654
  let v1096 : BitVec 32 := Scalar.remsi v1093 v1095
  let c0_i32_658 : BitVec 32 := 0#32
  let v1098 : BitVec 1 := Scalar.cmpi .slt v1096 c0_i32_658
  let c0_i32_659 : BitVec 32 := 0#32
  let v1099 : BitVec 1 := Scalar.cmpi .slt v1095 c0_i32_659
  let v1100 : BitVec 1 := Scalar.xori v1098 v1099
  let c0_i32_657 : BitVec 32 := 0#32
  let v1097 : BitVec 1 := Scalar.cmpi .ne v1096 c0_i32_657
  let v1101 : BitVec 1 := Scalar.andi v1100 v1097
  let v1102 : BitVec 32 := Scalar.addi v1096 v1095
  let v1103 : BitVec 32 := Scalar.select v1101 v1102 v1096
  let c0_i32_662 : BitVec 32 := 0#32
  let c0_i32_663 : BitVec 32 := 0#32
  ![v1103.toNat, 0, 0]
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S256x32768 : Shape := ⟨2, ![256, 32768]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256x32768, .f32⟩
  | .hbm, ⟨2, _⟩ => ⟨S256x32768, .i32⟩
  | .hbm, ⟨3, _⟩ => ⟨S256x32768, .f32⟩
  | .hbm, ⟨4, _⟩ => ⟨S256x32768, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton

/-!
# The kernel's body, phase by phase

The printed body is straight-line: thirty-one signals, a wait, the device's own top eight written twice,
thirty-one remote copies, thirty-one waits for what arrives, thirty-two loads, the merge, thirty-one waits for
what was sent. Here it is the same program written as one recursion per phase over a list of what differs from one
statement to the next (`body_eq`), each list then being the one over the device's peers in the order it visits
them (`peers`).
-/

@[expose] public section

noncomputable section

namespace Cert.TopK

open Cert.KernelIdeal Cert.KernelIdeal.Gen
open Idealize.ShloMosaic Idealize.SL.Sem

variable {F : FTy → Type} [FloatOps F] [Named F]

/-! ## Buffers and semaphores -/

abbrev xM : Memref sig .tc .vmem S256x1024 .f32 := Memref.whole cc0_stg0_0
abbrev oM : Memref sig .tc .vmem S256x8 .f32 := Memref.whole cc0_stg1_0
abbrev cM : Memref sig .tc .vmem S256x8 .f32 := Memref.whole cc0_scratch0
abbrev rM : Memref sig .tc .vmem S32x256x8 .f32 := Memref.whole cc0_scratch1

/-- An offset into the arrays of thirty-two semaphores, and one into the receive buffer, each inside it. -/
abbrev Off1 : Type := {o : Fin 1 → Nat // ∀ a, o a + S1.size a ≤ S32.size a}
abbrev Off3 : Type := {o : Fin 3 → Nat // ∀ a, o a + S1x256x8.size a ≤ S32x256x8.size a}

abbrev barS : Sem sig := (SemArray.scalar (sig.barrier 0 rfl) : Sems sig S_).sem
abbrev semAt (A : DmaSems sig S32) (o : Off1) : DmaSem sig :=
  ((A.slice (Rect.unit (s := S32) o.1 S1.size o.2)).squeeze S_ squeezes_S1_S_).sem
abbrev slotAt (o : Off3) : Memref sig .tc .vmem S256x8 .f32 :=
  (rM.slice (Rect.unit (s := S32x256x8) o.1 S1x256x8.size o.2) (fun _ => rfl)).squeeze S256x8 squeezes_S1x256x8_S256x8

/-! ## The peers -/

/-- The device `r + 1` places after `c`, around the mesh. -/
def peer (c : Dev nD) (r : Fin 31) : Dev nD := ⟨(c.val + (1 + r.val)) % 32, Nat.mod_lt _ (by decide)⟩
def steps : List (Fin 31) := [0, 1, 2, 3, 4, 5, 6, 7, 8, 9, 10, 11, 12, 13, 14, 15, 16, 17, 18, 19, 20, 21, 22, 23, 24, 25, 26, 27, 28, 29, 30]
/-- The other devices in the order `c` visits them. -/
def peers (c : Dev nD) : List (Dev nD) := steps.map (peer c)

def o1 (p : Dev nD) : Off1 := ⟨![p.val], by intro a; have : p.val < 32 := p.isLt; fin_cases a; show p.val + 1 ≤ 32; omega⟩
def o3 (p : Dev nD) : Off3 := ⟨![p.val, 0, 0], by
  intro a; have : p.val < 32 := p.isLt
  fin_cases a
  · show p.val + 1 ≤ 32; omega
  · show 0 + 256 ≤ 256; omega
  · show 0 + 8 ≤ 8; omega⟩

/-- The printed device ids: the targets of the signals and of the copies. -/
def sigDev (c : Dev nD) : List (Dev nD) := [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩]
def sndDev (c : Dev nD) : Fin 31 → Dev nD := ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩]

theorem sigDev_eq (c : Dev nD) : sigDev c = peers c := by revert c; decide +kernel
theorem sndDev_eq (c : Dev nD) : sndDev c = peer c := by revert c; decide +kernel
abbrev raw1 (c : Dev nD) (r : Fin 31) : Off1 := ⟨k0_off2 c (BitVec.ofNat 32 (1 + r.val)), k0_off2_inb c r⟩
abbrev raw3 (c : Dev nD) (r : Fin 31) : Off3 := ⟨k0_off5 c (BitVec.ofNat 32 (1 + r.val)), k0_off5_inb c r⟩
theorem off2_eq (c : Dev nD) (r : Fin 31) : k0_off2 c (BitVec.ofNat 32 (1 + r.val)) = (o1 (peer c r)).1 := by
  revert c r; decide +kernel
theorem off5_eq (c : Dev nD) (r : Fin 31) : k0_off5 c (BitVec.ofNat 32 (1 + r.val)) = (o3 (peer c r)).1 := by
  revert c r; decide +kernel

/-! ## The phases -/

abbrev PP (F : FTy → Type) [FloatOps F] : Type 1 := Prog (TpuEff nD τ sig (Elt F) Λ₀ .tc) PUnit

/-- Signal one unit to the barrier semaphore of each listed device. -/
def sigs : List (Dev nD) → PP F → PP F
  | [], k => k
  | p :: l, k => .op (.semSignal (p, .tc) barS (1#32 : BitVec 32).toInt) fun _ => sigs l k

/-- Copy the device's candidates into slot `s` of each listed device: on a send semaphore of one's own, a receive
    semaphore of theirs. -/
def sends (s : Off3) (v : Off1) : List (Dev nD × Off1) → PP F → PP F
  | [], k => k
  | (p, o) :: l, k =>
    .op (.enqueueDma cM (.remote (Dev.tc p) (slotAt s) (.dma (semAt cc0_scratch2 o))) (.dma (semAt cc0_scratch3 v))
      (Memref.isWhole_whole _).wordExact ((View.wordExact_bits rfl).reshape _ _) ⟨⟨rfl, Or.inl rfl⟩, trivial⟩)
      fun _ => sends s v l k

/-- Wait for the arrival in each listed slot. -/
def recvs : List (Off1 × Off3) → PP F → PP F
  | [], k => k
  | (o, s) :: l, k =>
    .op (.waitDma2 (semAt cc0_scratch3 o) cM (slotAt s) (Memref.isWhole_whole _).wordExact ((View.wordExact_bits rfl).reshape _ _))
      fun _ => recvs l k

/-- Wait for each listed copy to have left. -/
def sents (s : Off3) : List Off1 → PP F → PP F
  | [], k => k
  | o :: l, k =>
    .op (.waitDma2 (semAt cc0_scratch2 o) (slotAt s) cM ((View.wordExact_bits rfl).reshape _ _) (Memref.isWhole_whole _).wordExact)
      fun _ => sents s l k

/-- Load each listed slot. -/
def reads : List (Dev nD) → (Dev nD → Vec F S1x256x8 .f32) → ((Dev nD → Vec F S1x256x8 .f32) → PP F) → PP F
  | [], g, k => k g
  | i :: l, g, k =>
    .op (.load rM (Rect.unit (s := S32x256x8) (o3 i).1 S1x256x8.size (o3 i).2).toLoadRect (View.loadsAt_vmem h_S1x256x8))
      fun v => reads l (fun j => if j = i then v else g j) k

/-! ## The values -/

/-- The device's top eight per row, as the kernel computes them from its block. -/
def candOf (x : Vec F S256x1024 .f32) : FVec F S256x8 .f32 :=
  let I : IVec S256x1024 32 := iota .tc S256x1024 32 [1] iota_S256x1024_d1_w32
  k0_pay13 I (k0_pay2 x) (k0_pay4 x) (k0_pay7 I (k0_pay3 x) (k0_pay5 x)) (k0_pay9 I (k0_pay3 x) (k0_pay5 x))
    (k0_pay11 I (k0_pay3 x) (k0_pay5 x)) (k0_pay12 I (k0_pay3 x) (k0_pay5 x))

/-- The merge of the thirty-two slots: the top eight per row of all the candidates. -/
def mergeOf (g : Dev nD → Vec F S1x256x8 .f32) : FVec F S256x8 .f32 :=
  let I : IVec S256x256 32 := iota .tc S256x256 32 [1] iota_S256x256_d1_w32
  let n : F .f32 := Named.named κ "neg" 0xFF61B1E6#32
  let a := k0_pay44 (k0_pay16 (g 0)) (k0_pay17 (g 1)) (k0_pay18 (g 2)) (k0_pay19 (g 3)) (k0_pay20 (g 4)) (k0_pay21 (g 5)) (k0_pay22 (g 6)) (k0_pay23 (g 7)) (k0_pay24 (g 8)) (k0_pay25 (g 9)) (k0_pay26 (g 10)) (k0_pay27 (g 11)) (k0_pay28 (g 12)) (k0_pay29 (g 13)) (k0_pay30 (g 14)) (k0_pay31 (g 15)) (k0_pay32 (g 16)) (k0_pay33 (g 17)) (k0_pay34 (g 18)) (k0_pay35 (g 19)) (k0_pay36 (g 20)) (k0_pay37 (g 21)) (k0_pay38 (g 22)) (k0_pay39 (g 23)) (k0_pay40 (g 24)) (k0_pay41 (g 25)) (g 26) (g 27) (g 28) (g 29) (g 30) (g 31)
  let b := k0_pay46 (k0_pay16 (g 0)) (k0_pay17 (g 1)) (k0_pay18 (g 2)) (k0_pay19 (g 3)) (k0_pay20 (g 4)) (k0_pay21 (g 5)) (k0_pay22 (g 6)) (k0_pay23 (g 7)) (k0_pay24 (g 8)) (k0_pay25 (g 9)) (k0_pay26 (g 10)) (k0_pay27 (g 11)) (k0_pay28 (g 12)) (k0_pay29 (g 13)) (k0_pay30 (g 14)) (k0_pay31 (g 15)) (k0_pay32 (g 16)) (k0_pay33 (g 17)) (k0_pay34 (g 18)) (k0_pay35 (g 19)) (k0_pay36 (g 20)) (k0_pay37 (g 21)) (k0_pay38 (g 22)) (k0_pay39 (g 23)) (k0_pay40 (g 24)) (k0_pay41 (g 25)) (g 26) (g 27) (g 28) (g 29) (g 30) (g 31)
  k0_pay56 I (k0_pay43 (k0_pay16 (g 0)) (k0_pay17 (g 1)) (k0_pay18 (g 2)) (k0_pay19 (g 3)) (k0_pay20 (g 4)) (k0_pay21 (g 5)) (k0_pay22 (g 6)) (k0_pay23 (g 7)) (k0_pay24 (g 8)) (k0_pay25 (g 9)) (k0_pay26 (g 10)) (k0_pay27 (g 11)) (k0_pay28 (g 12)) (k0_pay29 (g 13)) (k0_pay30 (g 14)) (k0_pay31 (g 15)) (k0_pay32 (g 16)) (k0_pay33 (g 17)) (k0_pay34 (g 18)) (k0_pay35 (g 19)) (k0_pay36 (g 20)) (k0_pay37 (g 21)) (k0_pay38 (g 22)) (k0_pay39 (g 23)) (k0_pay40 (g 24)) (k0_pay41 (g 25)) (g 26) (g 27) (g 28) (g 29) (g 30) (g 31))
    (k0_pay45 (k0_pay16 (g 0)) (k0_pay17 (g 1)) (k0_pay18 (g 2)) (k0_pay19 (g 3)) (k0_pay20 (g 4)) (k0_pay21 (g 5)) (k0_pay22 (g 6)) (k0_pay23 (g 7)) (k0_pay24 (g 8)) (k0_pay25 (g 9)) (k0_pay26 (g 10)) (k0_pay27 (g 11)) (k0_pay28 (g 12)) (k0_pay29 (g 13)) (k0_pay30 (g 14)) (k0_pay31 (g 15)) (k0_pay32 (g 16)) (k0_pay33 (g 17)) (k0_pay34 (g 18)) (k0_pay35 (g 19)) (k0_pay36 (g 20)) (k0_pay37 (g 21)) (k0_pay38 (g 22)) (k0_pay39 (g 23)) (k0_pay40 (g 24)) (k0_pay41 (g 25)) (g 26) (g 27) (g 28) (g 29) (g 30) (g 31))
    (k0_pay48 a b n) (k0_pay50 I a b n) (k0_pay52 I a b n) (k0_pay53 I a b n) (k0_pay54 I a b n) (k0_pay55 I a b n)

/-- The whole-buffer rectangles of the kernel's plain loads and stores. -/
abbrev r0 : Rect S256x8 := Rect.unit (s := S256x8) ![0, 0] S256x8.size inb_S256x8_S256x8_0_0
abbrev rx : Rect S256x1024 := Rect.unit (s := S256x1024) ![0, 0] S256x1024.size inb_S256x1024_S256x1024_0_0

/-- The body over the lists of what its repeated statements name. -/
def prog (c : Dev nD) (D : List (Dev nD)) (own own' : Off3) (v : Off1) (S : List (Dev nD × Off1)) (R : List (Off1 × Off3)) (T : List Off1) : PP F :=
  sigs D <|
  .op (.semWait barS (31#32 : BitVec 32).toInt) fun _ =>
  .op (.load xM rx.toLoadRect (View.loadsAt_vmem h_S256x1024)) fun x =>
  .op (.load cM r0.toLoadRect (View.loadsAt_vmem h_S256x8)) fun _ =>
  .op (.store cM r0 (shapeCast S256x8 (candOf x) shapeCasts_S256x8_S256x8) Finset.univ (View.stores_vmem_bits_univ h_S256x8 rfl) (.inl rfl)) fun _ =>
  .op (.load rM (Rect.unit (s := S32x256x8) own.1 S1x256x8.size own.2).toLoadRect (View.loadsAt_vmem h_S1x256x8)) fun _ =>
  .op (.store rM (Rect.unit (s := S32x256x8) own.1 S1x256x8.size own.2) (shapeCast S1x256x8 (candOf x) shapeCasts_S256x8_S1x256x8) Finset.univ
    (View.stores_vmem_bits_univ h_S1x256x8 rfl) (.inl rfl)) fun _ =>
  sends own' v S <| recvs R <| reads (List.finRange 32) (fun _ _ => FloatOps.ofBits .f32 0#32) fun g =>
  .op (.load oM r0.toLoadRect (View.loadsAt_vmem h_S256x8)) fun _ =>
  .op (.store oM r0 (mergeOf g) Finset.univ (View.stores_vmem_bits_univ h_S256x8 rfl) (.inl rfl)) fun _ =>
  sents own' T (.ret ⟨⟩)

/-- The body as device `c` runs it, its copies and waits over its peers. -/
def plain (c : Dev nD) : PP F :=
  prog c (peers c) (o3 c) (o3 c) (o1 c) ((peers c).map fun p => (p, o1 p)) ((peers c).map fun p => (o1 p, o3 p)) ((peers c).map o1)

set_option maxRecDepth 100000 in
theorem body_raw :
    cc0_body (F := F) xM (Memref.isWhole_whole _) oM (Memref.isWhole_whole _) cM (Memref.isWhole_whole _) rM (Memref.isWhole_whole _) cc0_scratch2 cc0_scratch3
      = .op .deviceId fun c => prog c (sigDev c) ⟨k0_off1 c, k0_off1_inb c⟩ ⟨k0_off4 c, k0_off4_inb c⟩ ⟨k0_off3 c, k0_off3_inb c⟩
          (steps.map fun r => (sndDev c r, raw1 c r))
          (steps.map fun r => (raw1 c r, raw3 c r))
          (steps.map fun r => raw1 c r) := by
  simp only [cc0_body_eq_skeleton, cc0_body_skel, k0_part55_eq_skeleton, k0_part55_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel,
    semSignalWord, semWaitWord, Prog.lift, Prog.bind_op, Prog.bind_ret, Prog.pure_eq_ret]
  rfl

theorem body_eq :
    cc0_body (F := F) xM (Memref.isWhole_whole _) oM (Memref.isWhole_whole _) cM (Memref.isWhole_whole _) rM (Memref.isWhole_whole _) cc0_scratch2 cc0_scratch3
      = .op .deviceId fun c => plain c := by
  rw [body_raw]
  congr 1; funext c
  have h2 : ∀ r : Fin 31, (⟨k0_off2 c (BitVec.ofNat 32 (1 + r.val)), k0_off2_inb c r⟩ : Off1) = o1 (peer c r) := fun r => Subtype.ext (off2_eq c r)
  have h5 : ∀ r : Fin 31, (⟨k0_off5 c (BitVec.ofNat 32 (1 + r.val)), k0_off5_inb c r⟩ : Off3) = o3 (peer c r) := fun r => Subtype.ext (off5_eq c r)
  have h1 : (⟨k0_off1 c, k0_off1_inb c⟩ : Off3) = o3 c := Subtype.ext (k0_off1_eq c)
  have h3 : (⟨k0_off3 c, k0_off3_inb c⟩ : Off1) = o1 c := Subtype.ext (k0_off3_eq c)
  have h4 : (⟨k0_off4 c, k0_off4_inb c⟩ : Off3) = o3 c := Subtype.ext (k0_off4_eq c)
  unfold plain peers
  rw [h1, h3, h4, sigDev_eq, sndDev_eq]
  simp only [h2, h5, List.map_map]
  rfl

end Cert.TopK

end
-- ==== Proof.Slots.lean ====
module

public import proofs.«01_k».proof.Proof.Body
public import Idealize.ShloMosaic.Lib.ValueLayout
public import Idealize.ShloMosaic.Lib.ViewIndex

/-!
# The receive buffer, slot by slot

Slot `p` of the receive buffer is its elements `(p, _, _)`. What a copy into the slot, a store to it and a load from it
do, all against one array over the whole buffer, `gather A`, whose slot `p` is `A p`.
-/

@[expose] public section

noncomputable section

namespace Cert.TopK

open Cert.KernelIdeal Cert.KernelIdeal.Gen
open Idealize.ShloMosaic Idealize.ShloMosaic.ValueIdx Idealize.SL.Sem

variable {F : FTy → Type} [FloatOps F] [Named F]

abbrev slotRect (p : Dev nD) : Rect S32x256x8 := Rect.unit (s := S32x256x8) (o3 p).1 S1x256x8.size (o3 p).2

/-- The elements of slot `p`. -/
def slotSet (p : Dev nD) : Finset S32x256x8.Idx := Finset.univ.filter fun i => (i 0).val = p.val

theorem mem_slotSet {p : Dev nD} {i : S32x256x8.Idx} : i ∈ slotSet p ↔ (i 0).val = p.val := by
  unfold slotSet; rw [Finset.mem_filter]; exact ⟨fun h => h.2, fun h => ⟨Finset.mem_univ _, h⟩⟩

theorem slotSet_disjoint (p p' : Dev nD) (h : p ≠ p') : Disjoint (slotSet p) (slotSet p') :=
  Finset.disjoint_left.mpr fun i hi hi' => h (Fin.ext ((mem_slotSet.mp hi).symm.trans (mem_slotSet.mp hi')))

theorem slotSet_cover : Finset.univ.biUnion slotSet = (Finset.univ : Finset S32x256x8.Idx) :=
  Finset.eq_univ_iff_forall.mpr fun i => Finset.mem_biUnion.mpr ⟨⟨(i 0).val, (i 0).isLt⟩, Finset.mem_univ _, mem_slotSet.mpr rfl⟩

theorem slotRect_emb (p : Dev nD) (u : Fin 1) (a : Fin 256) (b : Fin 8) : (slotRect p).emb (ix3 u a b) = (ix3 p a b : S32x256x8.Idx) := by
  have hu : u.val = 0 := by omega
  funext x
  match x with
  | ⟨0, _⟩ => exact Fin.ext (by show p.val + 1 * u.val = p.val; omega)
  | ⟨1, _⟩ => exact Fin.ext (by show 0 + 1 * a.val = a.val; omega)
  | ⟨2, _⟩ => exact Fin.ext (by show 0 + 1 * b.val = b.val; omega)

theorem slot_emb (p : Dev nD) (a : Fin 256) (b : Fin 8) : (slotAt (o3 p)).view.emb (ix2 a b) = (ix3 p a b : S32x256x8.Idx) := by
  show (slotRect p).emb (Shape.reshapeEquiv _ (ix2 a b)) = _
  rw [reshapeEquiv_ix2_1ab]
  exact slotRect_emb p _ a b

theorem access_set (p : Dev nD) : (rM.access (slotRect p) : View sig .tc _ _ _).set = slotSet p := by
  show ((View.whole cc0_scratch1).slice (slotRect p)).set = slotSet p
  rw [View.set_slice_whole]
  ext i
  rw [Rect.mem_set_unit, mem_slotSet]
  constructor
  · intro h
    have h0 := h (0 : Fin 3)
    have h1 : p.val ≤ (i 0).val ∧ (i 0).val < p.val + 1 := h0
    omega
  · intro h x
    match x with
    | ⟨0, _⟩ => show p.val ≤ (i 0).val ∧ (i 0).val < p.val + 1; omega
    | ⟨1, _⟩ => have := (i 1).isLt; exact ⟨Nat.zero_le _, by show (i 1).val < 0 + 256; rw [Nat.zero_add]; exact this⟩
    | ⟨2, _⟩ => have := (i 2).isLt; exact ⟨Nat.zero_le _, by show (i 2).val < 0 + 8; rw [Nat.zero_add]; exact this⟩

theorem slot_set (p : Dev nD) : (slotAt (o3 p)).view.set = slotSet p :=
  (View.set_reshape (v := (rM.access (slotRect p) : View sig .tc _ _ _)) _).trans (access_set p)

/-- The contents of a whole receive buffer: slot `p` holds `A p`. -/
def gather (A : Dev nD → FVec F S256x8 .f32) : (cc0_scratch1 : Ref sig .tc).ty.Contents (Elt F) :=
  fun (i : S32x256x8.Idx) => A (i 0) (ix2 (i 1) (i 2))

theorem idx3 (p : Dev nD) (i : S32x256x8.Idx) (h : i ∈ slotSet p) : ∃ (a : Fin 256) (b : Fin 8), i = ix3 p a b := by
  refine ⟨i 1, i 2, funext fun x => ?_⟩
  match x with
  | ⟨0, _⟩ => exact Fin.ext (mem_slotSet.mp h)
  | ⟨1, _⟩ => rfl
  | ⟨2, _⟩ => rfl

/-- A copy of `A p` into slot `p` leaves there what `gather A` has there. -/
theorem slot_write (A : Dev nD → FVec F S256x8 .f32) (p : Dev nD) (f : (cc0_scratch1 : Ref sig .tc).ty.Contents (Elt F)) (i : S32x256x8.Idx)
    (h : i ∈ slotSet p) :
    (slotAt (o3 p)).view.write (Elt F) f ((cM : Memref sig .tc .vmem S256x8 .f32).view.read (Elt F) (A p)) Finset.univ i = gather A i := by
  obtain ⟨a, b, rfl⟩ := idx3 p i h
  rw [← slot_emb p a b, View.write_emb_of_mem _ _ (Finset.mem_univ _), slot_emb p a b]
  rfl

/-- So does the store of `A p` to it. -/
theorem own_write (A : Dev nD → FVec F S256x8 .f32) (p : Dev nD) (f : (cc0_scratch1 : Ref sig .tc).ty.Contents (Elt F)) (i : S32x256x8.Idx)
    (h : i ∈ slotSet p) :
    (rM.access (slotRect p) : View sig .tc _ _ _).write (Elt F) f (shapeCast S1x256x8 (A p) shapeCasts_S256x8_S1x256x8) Finset.univ i = gather A i := by
  obtain ⟨a, b, rfl⟩ := idx3 p i h
  have e : (rM.access (slotRect p) : View sig .tc _ _ _).emb (ix3 (0 : Fin 1) a b) = (ix3 p a b : S32x256x8.Idx) := slotRect_emb p 0 a b
  rw [← e, View.write_emb_of_mem _ _ (Finset.mem_univ _), e]
  show shapeCast S1x256x8 (A p) shapeCasts_S256x8_S1x256x8 (ix3 (0 : Fin 1) a b) = A p (ix2 a b)
  exact shapeCast_ab_1ab_apply (A p) _ 0 a b

/-- A load of slot `p` reads `A p`. -/
theorem slot_read (A : Dev nD → FVec F S256x8 .f32) (p : Dev nD) :
    (rM : Memref sig .tc .vmem S32x256x8 .f32).view.readAt (Elt F) (slotRect p).toLoadRect (gather A)
      = shapeCast S1x256x8 (A p) shapeCasts_S256x8_S1x256x8 := by
  funext j
  obtain ⟨u, a, b, rfl⟩ : ∃ (u : Fin 1) (a : Fin 256) (b : Fin 8), j = ix3 u a b := ⟨j 0, j 1, j 2, by
    funext x
    match x with
    | ⟨0, _⟩ => rfl
    | ⟨1, _⟩ => rfl
    | ⟨2, _⟩ => rfl⟩
  refine Eq.trans ?_ (shapeCast_ab_1ab_apply (A p) shapeCasts_S256x8_S1x256x8 u a b).symm
  show gather A ((slotRect p).emb (ix3 u a b)) = _
  rw [slotRect_emb]
  rfl

/-! ## What one copy moves -/

abbrev N : ℕ := (cM : Memref sig .tc .vmem S256x8 .f32).view.dmaCredit
theorem N_pos : 0 < N := View.dmaCredit_pos _ (by decide)
theorem slot_credit (p : Dev nD) : (slotAt (o3 p)).view.dmaCredit = N := rfl

end Cert.TopK

end
-- ==== Proof.Protocol.lean ====
module

public import proofs.«01_k».proof.Proof.Slots
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Ring
public import Idealize.ShloMosaic.Lib.Tactic

/-!
# Who waits for what

Every device has one barrier cell, and one send cell and one receive cell for each of its peers. To signal a peer's
barrier is to hand the peer one's own slot of that peer's number, for the peer to copy its candidates into: no copy
starts into a slot whose device has not said it is running the kernel. A copy's arrival raises the receive cell of the
sender's number at the target, and with it the slot comes back, filled; its departure raises the sender's send cell of
the target's number, and with it the share of the candidates the copy read. Barrier waits stand below receive waits.
-/

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F] [Named F]

/-! ## The resource algebra -/

/-- Duties are named by the device at the other end. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## A resource for each device of a list -/

section ListSep
omit [FloatOps F] [Named F]

def sepL : List (Dev nD) → (Dev nD → sProp 𝕄) → sProp 𝕄
  | [], _ => iprop(emp)
  | p :: l, R => iprop(R p ∗ sepL l R)

theorem sepL_nil (R : Dev nD → sProp 𝕄) : sepL [] R = iprop(emp) := rfl
theorem sepL_cons (p : Dev nD) (l : List (Dev nD)) (R : Dev nD → sProp 𝕄) : sepL (p :: l) R = iprop(R p ∗ sepL l R) := rfl

theorem sepL_eq (R : Dev nD → sProp 𝕄) : ∀ l : List (Dev nD), l.Nodup → bigSep l.toFinset R = sepL l R
  | [], _ => by rw [List.toFinset_nil, bigSep_empty]; rfl
  | p :: l, h => by
    rw [List.toFinset_cons, bigSep_insert (fun hm => (List.nodup_cons.mp h).1 (List.mem_toFinset.mp hm)), sepL_eq R l (List.nodup_cons.mp h).2]
    rfl

theorem peers_nodup (c : Dev nD) : (peers c).Nodup := by revert c; decide +kernel
theorem peers_set (c : Dev nD) : (peers c).toFinset = Finset.univ.erase c := by revert c; decide +kernel
theorem peers_ne (c : Dev nD) : ∀ p ∈ peers c, p ≠ c := fun p hp =>
  Finset.ne_of_mem_erase (s := Finset.univ) (by rw [← peers_set]; exact List.mem_toFinset.mpr hp)

/-- A resource of every other device, in the order `c` visits them. -/
theorem others_eq (c : Dev nD) (R : Dev nD → sProp 𝕄) : bigSep (Finset.univ.erase c) R = sepL (peers c) R := by
  rw [← peers_set, sepL_eq R _ (peers_nodup c)]
theorem all_eq (c : Dev nD) (R : Dev nD → sProp 𝕄) : bigSep Finset.univ R = iprop(R c ∗ sepL (peers c) R) := by
  rw [bigSep_univ_split c, others_eq]; rfl

theorem sepL_sep (R S : Dev nD → sProp 𝕄) : ∀ l : List (Dev nD), iprop(sepL l R ∗ sepL l S) ⊢ sepL l (fun p => iprop(R p ∗ S p))
  | [] => by rw [sepL_nil, sepL_nil, sepL_nil]; iintro ⟨-, -⟩; iempintro
  | p :: l => by
    rw [sepL_cons, sepL_cons, sepL_cons]
    iintro ⟨⟨HR, HRl⟩, HS, HSl⟩
    isplitl [HR HS]
    · isplitl [HR] <;> iassumption
    iapply (sepL_sep R S l)
    isplitl [HRl] <;> iassumption
theorem sepL_unsep (R S : Dev nD → sProp 𝕄) : ∀ l : List (Dev nD), sepL l (fun p => iprop(R p ∗ S p)) ⊢ iprop(sepL l R ∗ sepL l S)
  | [] => by rw [sepL_nil, sepL_nil, sepL_nil]; iintro -; isplitl <;> iempintro
  | p :: l => by
    rw [sepL_cons, sepL_cons, sepL_cons]
    iintro ⟨⟨HR, HS⟩, Hl⟩
    ihave H := (sepL_unsep R S l) $$ Hl
    icases H with ⟨HRl, HSl⟩
    isplitl [HR HRl]
    · isplitl [HR] <;> iassumption
    isplitl [HS] <;> iassumption
theorem sepL_mono (R S : Dev nD → sProp 𝕄) (h : ∀ p, R p ⊢ S p) : ∀ l : List (Dev nD), sepL l R ⊢ sepL l S
  | [] => by rw [sepL_nil, sepL_nil]
  | p :: l => BI.sep_mono (h p) (sepL_mono R S h l)

end ListSep

/-! ## The cells -/

abbrev sendS (p : Dev nD) : DmaSem sig := semAt cc0_scratch2 (o1 p)
abbrev recvS (p : Dev nD) : DmaSem sig := semAt cc0_scratch3 (o1 p)

theorem sendS_inj : ∀ p p' : Dev nD, sendS p = sendS p' → p = p' := by decide +kernel
theorem recvS_inj : ∀ p p' : Dev nD, recvS p = recvS p' → p = p' := by decide +kernel
theorem sendS_ne_recvS : ∀ p p' : Dev nD, sendS p ≠ recvS p' := by decide +kernel
theorem dma_ne_bar (q : DmaSem sig) : (SemLoc.dma q : SemLoc sig) ≠ .reg barS := fun h => by cases h
theorem dma_inj {q q' : DmaSem sig} (h : (SemLoc.dma q : SemLoc sig) = .dma q') : q = q' := SemLoc.dma.inj h

abbrev barCell (c : Dev nD) : GSem nD τ sig := ((c : Thread nD τ), .reg barS)
abbrev sendCell (c p : Dev nD) : GSem nD τ sig := ((c : Thread nD τ), .dma (sendS p))
abbrev recvCell (c p : Dev nD) : GSem nD τ sig := ((c : Thread nD τ), .dma (recvS p))

/-- A device's cells: its barrier's, its send cells, its receive cells. -/
abbrev CK : Type := Unit ⊕ (Dev nD ⊕ Dev nD)
abbrev osem : Dev nD ⊕ Dev nD → SemLoc sig := fun | .inl p => .dma (sendS p) | .inr p => .dma (recvS p)
abbrev csem : CK → SemLoc sig := fun | .inl _ => .reg barS | .inr k => osem k
abbrev kcell (ck : Dev nD × CK) : GSem nD τ sig := ((ck.1 : Thread nD τ), csem ck.2)

abbrev kBar (c : Dev nD) : Dev nD × CK := (c, .inl ())
abbrev kSend (c p : Dev nD) : Dev nD × CK := (c, .inr (.inl p))
abbrev kRecv (c p : Dev nD) : Dev nD × CK := (c, .inr (.inr p))

/-! ## Contents -/

/-- Device `c`'s block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- Its candidates, -/
def cand (c : Dev nD) : FVec F S256x8 .f32 := candOf (xstg m ρ c)
/-- and the result every device computes from everybody's. -/
def outAt (c : Dev nD) : (cc0_stg1_0 : Ref sig .tc).ty.Contents (Elt F) :=
  mergeOf fun p => shapeCast S1x256x8 (cand m ρ p) shapeCasts_S256x8_S1x256x8

/-- Slot `p` of device `c` at `f`. -/
def slotPts (c p : Dev nD) (f : (cc0_scratch1 : Ref sig .tc).ty.Contents (Elt F)) : sProp 𝕄 :=
  (((c : Thread nD τ).loc cc0_scratch1) ↦[slotSet p]{fullShare} f)
/-- Device `c`'s candidates at the share the copy to `p` reads. -/
def candPts (c p : Dev nD) : sProp 𝕄 :=
  (((c : Thread nD τ).loc cc0_scratch0) ↦{leaf 5 fullShare p} (cand m ρ c : (cc0_scratch0 : Ref sig .tc).ty.Contents (Elt F)))

omit [FloatOps F] [Named F] in
instance slotPts_storable (c p : Dev nD) (f) : BI.Storable (upEmb : UEmb _ 𝕄) (slotPts (F := F) c p f) := by unfold slotPts; infer_instance
instance candPts_storable (c p : Dev nD) : BI.Storable (upEmb : UEmb _ 𝕄) (candPts (F := F) m ρ c p) := by unfold candPts; infer_instance

/-- What the signal of `d` hands `c`: the slot of `c` on `d`. -/
def barPay (c d : Dev nD) : sProp 𝕄 := iprop(∃ f, slotPts d c f)

/-! ## The schedule -/

/-- Every cell has one round; a barrier cell a duty of one unit for each other device, a send or receive cell one duty of
    a copy's amount, and none if it is the cell of the device's own number. -/
def topRd : Rounds.Schedule (GSem nD τ sig) (Dev nD) 𝕄 where
  duties g r := if r = 0 ∧ g.1.2 = .tc then
    Finset.univ.filter fun p => p ≠ g.1.1 ∧ (g.2 = .reg barS ∨ g.2 = .dma (sendS p) ∨ g.2 = .dma (recvS p)) else ∅
  unitless _ := False
  amount g _ _ := if g.2 = .reg barS then 1 else N
  payload g _ d :=
    if g.2 = .reg barS then barPay g.1.1 d
    else if g.2 = .dma (recvS d) then slotPts g.1.1 d (gather (cand m ρ))
    else if g.2 = .dma (sendS d) then candPts m ρ g.1.1 d
    else iprop(emp)
  amount_pos g _ _ _ := by
    by_cases h : g.2 = .reg barS
    · rw [if_pos h]; exact Nat.one_pos
    · rw [if_neg h]; exact N_pos

instance topRd_payload_storable (g : GSem nD τ sig) (r : ℕ) (d : Dev nD) :
    BI.Storable (upEmb : UEmb _ 𝕄) ((topRd (F := F) m ρ).payload g r d) := by
  show BI.Storable upEmb (if g.2 = .reg barS then barPay g.1.1 d else if g.2 = .dma (recvS d) then slotPts g.1.1 d (gather (cand m ρ))
    else if g.2 = .dma (sendS d) then candPts m ρ g.1.1 d else iprop(emp))
  unfold barPay
  (repeat' split) <;> infer_instance

section Sched
variable (c p : Dev nD)

theorem duties_bar : (topRd (F := F) m ρ).duties (barCell c) 0 = Finset.univ.erase c := by
  dsimp only [topRd]; rw [if_pos ⟨rfl, rfl⟩]; ext q
  simp
theorem duties_send (h : p ≠ c) : (topRd (F := F) m ρ).duties (sendCell c p) 0 = {p} := by
  dsimp only [topRd]; rw [if_pos ⟨rfl, rfl⟩]; ext q
  rw [Finset.mem_filter, Finset.mem_singleton]
  constructor
  · rintro ⟨-, -, h | h | h⟩
    · exact absurd h (dma_ne_bar _)
    · exact (sendS_inj _ _ (dma_inj h)).symm
    · exact absurd (dma_inj h) (sendS_ne_recvS _ _)
  · rintro rfl; exact ⟨Finset.mem_univ _, h, .inr (.inl rfl)⟩
theorem duties_recv (h : p ≠ c) : (topRd (F := F) m ρ).duties (recvCell c p) 0 = {p} := by
  dsimp only [topRd]; rw [if_pos ⟨rfl, rfl⟩]; ext q
  rw [Finset.mem_filter, Finset.mem_singleton]
  constructor
  · rintro ⟨-, -, h | h | h⟩
    · exact absurd h (dma_ne_bar _)
    · exact absurd (dma_inj h).symm (sendS_ne_recvS _ _)
    · exact (recvS_inj _ _ (dma_inj h)).symm
  · rintro rfl; exact ⟨Finset.mem_univ _, h, .inr (.inr rfl)⟩
theorem duties_later (g : GSem nD τ sig) : ∀ r, 1 ≤ r → (topRd (F := F) m ρ).duties g r = ∅ :=
  fun r hr => by dsimp only [topRd]; rw [if_neg fun h => by omega]
/-- A device's cells of its own number have no duty at all. -/
theorem duties_own (k : Dev nD → SemLoc sig) (hk : k = (fun p => .dma (sendS p)) ∨ k = fun p => .dma (recvS p)) :
    ∀ r, 0 ≤ r → (topRd (F := F) m ρ).duties ((c : Thread nD τ), k c) r = ∅ := fun r _ => by
  by_cases hr : r = 0
  · subst hr
    dsimp only [topRd]; rw [if_pos ⟨rfl, rfl⟩]
    refine Finset.filter_eq_empty_iff.mpr fun q _ hq => ?_
    obtain ⟨hne, hq⟩ := hq
    rcases hk with rfl | rfl
    · rcases hq with h | h | h
      · exact dma_ne_bar _ h
      · exact hne (sendS_inj _ _ (dma_inj h)).symm
      · exact sendS_ne_recvS _ _ (dma_inj h)
    · rcases hq with h | h | h
      · exact dma_ne_bar _ h
      · exact sendS_ne_recvS _ _ (dma_inj h).symm
      · exact hne (recvS_inj _ _ (dma_inj h)).symm
  · exact duties_later m ρ _ r (Nat.one_le_iff_ne_zero.mpr hr)

theorem amount_bar (d : Dev nD) : (topRd (F := F) m ρ).amount (barCell c) 0 d = 1 := by dsimp only [topRd]; exact if_pos rfl
theorem amount_dma (q : DmaSem sig) (d : Dev nD) : (topRd (F := F) m ρ).amount ((c : Thread nD τ), .dma q) 0 d = N := by
  dsimp only [topRd]; exact if_neg (dma_ne_bar q)

theorem expect_bar : (topRd (F := F) m ρ).expect (barCell c) 0 = 31 := by
  unfold Schedule.expect Schedule.amountOf
  rw [duties_bar, Finset.sum_congr rfl fun d _ => amount_bar m ρ c d, Finset.sum_const, Finset.card_erase_of_mem (Finset.mem_univ _), Finset.card_univ,
    Fintype.card_fin]
  rfl
theorem expect_send (h : p ≠ c) : (topRd (F := F) m ρ).expect (sendCell c p) 0 = N := by
  unfold Schedule.expect Schedule.amountOf; rw [duties_send m ρ c p h, Finset.sum_singleton, amount_dma]
theorem expect_recv (h : p ≠ c) : (topRd (F := F) m ρ).expect (recvCell c p) 0 = N := by
  unfold Schedule.expect Schedule.amountOf; rw [duties_recv m ρ c p h, Finset.sum_singleton, amount_dma]

theorem payload_bar : (topRd (F := F) m ρ).payload (barCell c) 0 p = barPay c p := by dsimp only [topRd]; exact if_pos rfl
theorem payload_send : (topRd (F := F) m ρ).payload (sendCell c p) 0 p = candPts m ρ c p := by
  dsimp only [topRd]; rw [if_neg (dma_ne_bar _), if_neg (fun h => sendS_ne_recvS _ _ (dma_inj h)), if_pos rfl]
theorem payload_recv : (topRd (F := F) m ρ).payload (recvCell c p) 0 p = slotPts c p (gather (cand m ρ)) := by
  dsimp only [topRd]; rw [if_neg (dma_ne_bar _), if_pos rfl]

theorem rest_bar : bigSep ((topRd (F := F) m ρ).duties (barCell c) 0 \ ∅) (fun d => (topRd (F := F) m ρ).payload (barCell c) 0 d)
    = sepL (peers c) fun d => barPay c d := by
  rw [Finset.sdiff_empty, duties_bar, bigSep_congr fun d _ => payload_bar m ρ c d, others_eq]
theorem rest_send (h : p ≠ c) : bigSep ((topRd (F := F) m ρ).duties (sendCell c p) 0 \ ∅) (fun d => (topRd (F := F) m ρ).payload (sendCell c p) 0 d)
    = candPts m ρ c p := by
  rw [Finset.sdiff_empty, duties_send m ρ c p h, bigSep_singleton, payload_send]
theorem rest_recv (h : p ≠ c) : bigSep ((topRd (F := F) m ρ).duties (recvCell c p) 0 \ ∅) (fun d => (topRd (F := F) m ρ).payload (recvCell c p) 0 d)
    = slotPts c p (gather (cand m ρ)) := by
  rw [Finset.sdiff_empty, duties_recv m ρ c p h, bigSep_singleton, payload_recv]

end Sched

/-! ## What each device owes at launch; the levels -/

/-- `B` and, for each device of a list, a tally of its own: the last one on top is the list's first. -/
def owedL (T : Dev nD → CellTallies nD τ sig Unit) : List (Dev nD) → CellTallies nD τ sig Unit → CellTallies nD τ sig Unit
  | [], B => B
  | p :: l, B => owedL T l B + T p

abbrev barT (p : Dev nD) : CellTallies nD τ sig Unit := tallyAt (barCell p) () 1
abbrev recvT (c p : Dev nD) : CellTallies nD τ sig Unit := tallyAt (recvCell p c) () N

/-- Every peer's receive cell of `c`'s number a copy's amount, -/
def O₁ (c : Dev nD) : CellTallies nD τ sig Unit := owedL (recvT c) (peers c) 0
/-- and every peer's barrier cell a unit. -/
def O₀ (c : Dev nD) : CellTallies nD τ sig Unit := owedL barT (peers c) (O₁ c)

theorem owedL_apply (T : Dev nD → CellTallies nD τ sig Unit) (B : CellTallies nD τ sig Unit) (g : GSem nD τ sig) (u : Unit) :
    ∀ l : List (Dev nD), l.Nodup → owedL T l B g u = B g u + ∑ p ∈ l.toFinset, T p g u
  | [], _ => by rw [List.toFinset_nil, Finset.sum_empty, Nat.add_zero]; rfl
  | p :: l, h => by
    rw [List.toFinset_cons, Finset.sum_insert (fun hm => (List.nodup_cons.mp h).1 (List.mem_toFinset.mp hm))]
    show (owedL T l B + T p) g u = _
    rw [Pi.add_apply, Finsupp.add_apply, owedL_apply T B g u l (List.nodup_cons.mp h).2]
    omega

theorem O₁_apply (c : Dev nD) (g : GSem nD τ sig) (u : Unit) : O₁ c g u = ∑ p ∈ Finset.univ.erase c, recvT c p g u := by
  unfold O₁; rw [owedL_apply _ _ _ _ _ (peers_nodup c), peers_set]; exact Nat.zero_add _
theorem O₀_apply (c : Dev nD) (g : GSem nD τ sig) (u : Unit) : O₀ c g u = O₁ c g u + ∑ p ∈ Finset.univ.erase c, barT p g u := by
  unfold O₀; rw [owedL_apply _ _ _ _ _ (peers_nodup c), peers_set]

theorem O₁_pos {c : Dev nD} {g : GSem nD τ sig} {u : Unit} (h : 0 < O₁ c g u) : ∃ p, g = recvCell p c := by
  rw [O₁_apply] at h
  by_contra hn
  refine Nat.lt_irrefl 0 (lt_of_lt_of_eq h (Finset.sum_eq_zero fun p _ => ?_))
  unfold recvT
  rw [tallyAt_apply, if_neg fun h' => hn ⟨p, h'.1⟩]
theorem O₀_pos {c : Dev nD} {g : GSem nD τ sig} {u : Unit} (h : 0 < O₀ c g u) : (∃ p, g = recvCell p c) ∨ ∃ p, g = barCell p := by
  rw [O₀_apply] at h
  by_cases h1 : 0 < O₁ c g u
  · exact .inl (O₁_pos h1)
  · refine .inr ?_
    by_contra hn
    refine h1 (lt_of_lt_of_eq h ?_)
    rw [Finset.sum_eq_zero fun p _ => ?_, Nat.add_zero]
    unfold barT
    rw [tallyAt_apply, if_neg fun h' => hn ⟨p, h'.1⟩]

def L (g : GSem nD τ sig) : Finset Unit := if g.1.2 = .tc then {()} else ∅
/-- Barrier cells at 1, receive cells at 2, the others (staging, send) at 0. -/
def lv (g : GSem nD τ sig) (_ : Unit) : ℕ := if g.2 = .reg barS then 1 else if ∃ p, g.2 = .dma (recvS p) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by dsimp only [lv]; exact if_pos rfl
theorem lv_recv (c p : Dev nD) (u : Unit) : lv (recvCell c p) u = 2 := by dsimp only [lv]; rw [if_neg (dma_ne_bar _), if_pos ⟨p, rfl⟩]

omit [FloatOps F] [Named F] in
theorem mayWait_stage (c : Dev nD) (q : DmaSem sig) (hq : ∀ p, q ≠ recvS p) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, rfl⟩ | ⟨p, rfl⟩ <;> exact Finset.mem_singleton_self _)
      (fun p hp => by
        rw [Finset.mem_singleton.mp hp]; dsimp only [lv]
        rw [if_neg (fun h => by cases h), if_neg (fun ⟨p, h⟩ => hq p (dma_inj h))])
      (fun g u hg => by
        rcases O₀_pos hg with ⟨p, rfl⟩ | ⟨p, rfl⟩
        · rw [lv_recv]; decide
        · rw [lv_bar]; decide)
  · rw [MayWait_zero]; iintro -; iempintro

omit [FloatOps F] [Named F] in
/-- At its barrier wait a device owes receive credits only. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨p, rfl⟩ := O₁_pos hg; exact Finset.mem_singleton_self _)
    (fun p hp => by rw [Finset.mem_singleton.mp hp]; exact le_of_eq (lv_bar c ()))
    (fun g u hg => by obtain ⟨p, rfl⟩ := O₁_pos hg; rw [lv_recv]; decide)

/-! ## What everybody knows -/

/-- The invariant of every device's every cell, and that each is at least at round 0. -/
def records (K : Dev nD × CK → ℕ) : sProp 𝕄 :=
  iprop((bigSep Finset.univ fun ck : Dev nD × CK => cellInv ER (topRd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (topRd m ρ) (K ck) (kcell ck) := by
  have h : (bigSep Finset.univ fun ck : Dev nD × CK => (cellInv ER (topRd m ρ) (K ck) (kcell ck) : sProp 𝕄)) ⊢ cellInv ER (topRd m ρ) (K ck) (kcell ck) :=
    bigSep_elim (Finset.mem_univ ck)
  unfold records; iintro ⟨H, -⟩; iapply h; iexact H
theorem reached_at (K : Dev nD × CK → ℕ) (ck : Dev nD × CK) : records m ρ K ⊢ reached ER (kcell ck) 0 := by
  have h : (bigSep Finset.univ fun ck : Dev nD × CK => (reached ER (kcell ck) 0 : sProp 𝕄)) ⊢ reached ER (kcell ck) 0 :=
    bigSep_elim (Finset.mem_univ ck)
  unfold records; iintro ⟨-, H⟩; iapply h; iexact H

/-! ## The phases -/

abbrev 𝒱₀ : Variants := Variants.none

section Phases
variable (K : Dev nD × CK → ℕ) (c : Dev nD)

/-- The signals hand every peer its slot. -/
theorem wp_sigs {Q : Unit → sProp 𝕄} (B : CellTallies nD τ sig Unit) (W : Waits sig Unit) (k : PP F) : ∀ l : List (Dev nD), (∀ p ∈ l, p ≠ c) →
    iprop(records m ρ K ∗ owes (c : Thread nD τ) (owedL barT l B) W
        ∗ sepL l fun p => iprop((∃ f, slotPts c p f) ∗ dutyTok ER (barCell p) 0 c))
      ⊢ iprop((owes (c : Thread nD τ) B W -∗ wp frame (wpE (defs₀ (F := F)) 𝒱₀ (c : Thread nD τ) none) Set.univ k Q)
          -∗ wp frame (wpE (defs₀ (F := F)) 𝒱₀ (c : Thread nD τ) none) Set.univ (sigs l k) Q)
  | [], _ => by
    iintro ⟨-, HO, -⟩ Hk
    iapply Hk; iexact HO
  | p :: l, hl => by
    rw [sepL_cons]
    iintro ⟨#HR, HO, ⟨Hs, Ht⟩, Hl⟩ Hk
    iapply (Rounds.wp_signal 𝒱₀ ER (topRd m ρ) (c : Thread nD τ) none (dst := (p : Thread nD τ)) (κ := K (kBar p))
        (d := c) (by rw [duties_bar]; exact Finset.mem_erase.mpr ⟨(hl p (List.mem_cons_self ..)).symm, Finset.mem_univ _⟩)
        ((amount_bar m ρ p c).trans (by decide)) () (owedL barT l B) rfl) $$ [HO Hs Ht]
    · isplitr; · iapply (inv_at m ρ K (kBar p)); iexact HR
      isplitl [HO]; · iexact HO
      isplitl [Ht]; · iexact Ht
      isplitl [Hs]; · rw [payload_bar]; unfold barPay; iexact Hs
      iapply (reached_at m ρ K (kBar p)); iexact HR
    iintro HO
    iapply (wp_sigs B W k l fun q hq => hl q (List.mem_cons_of_mem _ hq)) $$ [HO Hl]
    · isplitr; · iexact HR
      isplitl [HO] <;> iassumption
    iexact Hk

omit [FloatOps F] [Named F] in
theorem cM_set : (cM : Memref sig .tc .vmem S256x8 .f32).view.set = Finset.univ := View.set_whole _

/-- The copy to `p`: out goes the share of the candidates for it, and `p`'s slot comes to hold them. -/
theorem wp_send_top {Q : Unit → sProp 𝕄} (p : Dev nD) (hp : p ≠ c) {hsc : (slotAt (o3 c)).view.ref.isScScratch = false}
    {hsrc : (cM : Memref sig .tc .vmem S256x8 .f32).view.WordExact} {hdst : (slotAt (o3 c)).view.WordExact}
    {hsem : DmaTarget.Typed .vmem (.dma (recvS c)) (.remote (Dev.tc p : Thread nD τ) (slotAt (o3 c)) (.dma (sendS p)) hsc)}
    {k : PUnit → PP F} (f : (cc0_scratch1 : Ref sig .tc).ty.Contents (Elt F)) (O : CellTallies nD τ sig Unit) (W : Waits sig Unit) :
    iprop(records m ρ K ∗ candPts m ρ c p ∗ slotPts p c f
        ∗ owes (c : Thread nD τ) (O + recvT c p) W
        ∗ dutyTok ER (sendCell c p) 0 p ∗ dutyTok ER (recvCell p c) 0 c)
      ⊢ iprop(((cred (tallyAt (sendCell c p) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma cM (.remote (Dev.tc p : Thread nD τ) (slotAt (o3 c)) (.dma (sendS p)) hsc) (.dma (recvS c)) hsrc hdst hsem) k) Q) := by
  have hpay₁ : ((cM : Memref sig .tc .vmem S256x8 .f32).view.loc (c : Thread nD τ)
      ↦[(cM : Memref sig .tc .vmem S256x8 .f32).view.set]{leaf 5 fullShare p} (cand m ρ c : (cc0_scratch0 : Ref sig .tc).ty.Contents (Elt F)) : sProp 𝕄)
      ⊢ (topRd m ρ).payload (sendCell c p) 0 p := by
    rw [payload_send]; unfold candPts; rw [cM_set]
  have hpay₂ : ((slotAt (o3 c)).view.loc (p : Thread nD τ) ↦[(slotAt (o3 c)).view.set]{fullShare}
      ((slotAt (o3 c)).view.write (Elt F) f ((cM : Memref sig .tc .vmem S256x8 .f32).view.read (Elt F) (cand m ρ c)) Finset.univ) : sProp 𝕄)
      ⊢ (topRd m ρ).payload (recvCell p c) 0 c := by
    rw [payload_recv]; unfold slotPts; rw [slot_set]
    exact Entails.of_eq (pointsTo_congr fun i hi => slot_write (cand m ρ) c f i hi)
  refine BIBase.Entails.trans ?_ (Rounds.wp_send_pointsTo 𝒱₀ ER (topRd m ρ) (c : Thread nD τ) none (c' := (p : Thread nD τ)) (src := cM) (dst := slotAt (o3 c))
    (sS := .dma (sendS p)) (sem := .dma (recvS c)) (hsc := hsc) (hsrc := hsrc) (hdst := hdst) (hsem := hsem) (k := k) (Q := Q) (κ₁ := K (kSend c p)) (κ₂ := K (kRecv p c))
    (r₁ := 0) (r₂ := 0) (d₁ := p) (d₂ := c) (fd := f) (q := leaf 5 fullShare p) (fs := (cand m ρ c : (cc0_scratch0 : Ref sig .tc).ty.Contents (Elt F)))
    (by rw [duties_send m ρ c p hp]; exact Finset.mem_singleton_self _) (by rw [duties_recv m ρ p c hp.symm]; exact Finset.mem_singleton_self _)
    () () N (by exact slot_credit c) (amount_dma m ρ c _ p) (amount_dma m ρ p _ c) O rfl (W := W) hpay₁ hpay₂)
  rw [cM_set, slot_set]
  unfold candPts slotPts
  iintro ⟨#HR, Hc, Hs, HO, Ht, Ht'⟩
  isplitr; · iapply (inv_at m ρ K (kSend c p)); iexact HR
  isplitr; · iapply (inv_at m ρ K (kRecv p c)); iexact HR
  isplitl [Hc]; · iexact Hc
  isplitl [Hs]; · iexact Hs
  isplitl [HO]; · iexact HO
  isplitl [Ht]; · iexact Ht
  isplitr; · iapply (reached_at m ρ K (kSend c p)); iexact HR
  isplitl [Ht']; · iexact Ht'
  iapply (reached_at m ρ K (kRecv p c)); iexact HR

/-- The copies to every peer. -/
theorem wp_sends {Q : Unit → sProp 𝕄} (W : Waits sig Unit) (k : PP F) : ∀ l : List (Dev nD), (∀ p ∈ l, p ≠ c) →
    iprop(records m ρ K ∗ owes (c : Thread nD τ) (owedL (recvT c) l 0) W
        ∗ sepL l fun p => iprop(candPts m ρ c p ∗ barPay c p ∗ dutyTok ER (sendCell c p) 0 p ∗ dutyTok ER (recvCell p c) 0 c))
      ⊢ iprop(((owes (c : Thread nD τ) 0 W ∗ sepL l fun p => cred (tallyAt (sendCell c p) () N))
            -∗ wp frame (wpE (defs₀ (F := F)) 𝒱₀ (c : Thread nD τ) none) Set.univ k Q)
          -∗ wp frame (wpE (defs₀ (F := F)) 𝒱₀ (c : Thread nD τ) none) Set.univ (sends (o3 c) (o1 c) (l.map fun p => (p, o1 p)) k) Q)
  | [], _ => by
    iintro ⟨-, HO, -⟩ Hk
    iapply Hk
    isplitl [HO]; · iexact HO
    rw [sepL_nil]; iempintro
  | p :: l, hl => by
    rw [sepL_cons, sepL_cons]
    unfold barPay
    iintro ⟨#HR, HO, ⟨Hc, ⟨%f, Hs⟩, Ht, Ht'⟩, Hl⟩ Hk
    rw [List.map_cons]
    unfold sends
    iapply (wp_send_top m ρ K c p (hl p (List.mem_cons_self ..)) f (owedL (recvT c) l 0) W) $$ [HO Hc Hs Ht Ht']
    · isplitr; · iexact HR
      isplitl [Hc]; · iexact Hc
      isplitl [Hs]; · iexact Hs
      isplitl [HO]; · iexact HO
      isplitl [Ht] <;> iassumption
    iintro ⟨Hcr, HO⟩
    iapply (wp_sends W k l fun q hq => hl q (List.mem_cons_of_mem _ hq)) $$ [HO Hl]
    · isplitr; · iexact HR
      isplitl [HO]; · iexact HO
      unfold barPay; iexact Hl
    iintro ⟨HO, Hl⟩
    iapply Hk
    isplitl [HO]; · iexact HO
    isplitl [Hcr] <;> iassumption

/-- The waits for the arrivals: each slot comes back filled, its cell done with. -/
theorem wp_recvs {Q : Unit → sProp 𝕄} (k : PP F) : ∀ (l : List (Dev nD)) (W : Waits sig Unit), (∀ p ∈ l, p ≠ c) →
    iprop(records m ρ K ∗ owes (c : Thread nD τ) 0 W
        ∗ sepL l fun p => iprop(cred (tallyAt (recvCell c p) () N) ∗ atPos ER (recvCell c p) 0 ∅ 0))
      ⊢ iprop((((∃ W', owes (c : Thread nD τ) 0 W') ∗ sepL l fun p => iprop(slotPts c p (gather (cand m ρ)) ∗ semVal (recvCell c p) 0))
            -∗ wp frame (wpE (defs₀ (F := F)) 𝒱₀ (c : Thread nD τ) none) Set.univ k Q)
          -∗ wp frame (wpE (defs₀ (F := F)) 𝒱₀ (c : Thread nD τ) none) Set.univ (recvs (l.map fun p => (o1 p, o3 p)) k) Q)
  | [], W, _ => by
    iintro ⟨-, HO, -⟩ Hk
    iapply Hk
    isplitl [HO]; · iexists W; iexact HO
    rw [sepL_nil]; iempintro
  | p :: l, W, hl => by
    have hp : p ≠ c := hl p (List.mem_cons_self ..)
    rw [sepL_cons, sepL_cons]
    iintro ⟨#HR, HO, ⟨Hcr, Hat⟩, Hl⟩ Hk
    rw [List.map_cons]
    unfold recvs
    iapply (Rounds.wp_wait_rest_token 𝒱₀ ER (topRd m ρ) (c : Thread nD τ) none (κ := K (kRecv c p))
        (wpE_waitDma2_eq 𝒱₀ (c : Thread nD τ) none Set.univ) (Set.mem_univ _) () (O := 0) (W := W) (R := 0) (m := 0) (T := ∅)
        (by rw [Nat.zero_add, expect_recv m ρ c p hp])) $$ [Hcr HO Hat]
    · isplitr; · iapply (inv_at m ρ K (kRecv c p)); iexact HR
      isplitl [Hcr]; · iexact Hcr
      isplitl [HO]; · iexact HO
      isplitr; · rw [MayWait_zero]; iempintro
      iexact Hat
    iintro ⟨HO, Hat, -, Hpay⟩
    ihave Hs := (Entails.of_eq (rest_recv m ρ c p hp)) $$ Hpay
    imod (Rounds.cell_close ER (topRd m ρ) (Set.mem_univ (K (kRecv c p))) (fun h => h) (R := 0 + 1) (duties_later m ρ (recvCell c p))) $$ [Hat] with Hz
    · isplitr; · iapply (inv_at m ρ K (kRecv c p)); iexact HR
      iexact Hat
    iapply (wp_recvs k l _ fun q hq => hl q (List.mem_cons_of_mem _ hq)) $$ [HO Hl]
    · isplitr; · iexact HR
      isplitl [HO] <;> iassumption
    iintro ⟨HO, Hl⟩
    iapply Hk
    isplitl [HO]; · iexact HO
    isplitl [Hs Hz]
    · isplitl [Hs] <;> iassumption
    iexact Hl

/-- The waits for the departures: each copy's share of the candidates comes back. -/
theorem wp_sents {Q : Unit → sProp 𝕄} (k : PP F) : ∀ (l : List (Dev nD)) (W : Waits sig Unit), (∀ p ∈ l, p ≠ c) →
    iprop(records m ρ K ∗ owes (c : Thread nD τ) 0 W
        ∗ sepL l fun p => iprop(cred (tallyAt (sendCell c p) () N) ∗ atPos ER (sendCell c p) 0 ∅ 0))
      ⊢ iprop((((∃ W', owes (c : Thread nD τ) 0 W') ∗ sepL l fun p => iprop(candPts m ρ c p ∗ semVal (sendCell c p) 0))
            -∗ wp frame (wpE (defs₀ (F := F)) 𝒱₀ (c : Thread nD τ) none) Set.univ k Q)
          -∗ wp frame (wpE (defs₀ (F := F)) 𝒱₀ (c : Thread nD τ) none) Set.univ (sents (o3 c) (l.map o1) k) Q)
  | [], W, _ => by
    iintro ⟨-, HO, -⟩ Hk
    iapply Hk
    isplitl [HO]; · iexists W; iexact HO
    rw [sepL_nil]; iempintro
  | p :: l, W, hl => by
    have hp : p ≠ c := hl p (List.mem_cons_self ..)
    rw [sepL_cons, sepL_cons]
    iintro ⟨#HR, HO, ⟨Hcr, Hat⟩, Hl⟩ Hk
    rw [List.map_cons]
    unfold sents
    iapply (Rounds.wp_wait_rest_token 𝒱₀ ER (topRd m ρ) (c : Thread nD τ) none (κ := K (kSend c p))
        (wpE_waitDma2_eq 𝒱₀ (c : Thread nD τ) none Set.univ) (Set.mem_univ _) () (O := 0) (W := W) (R := 0) (m := 0) (T := ∅)
        (by rw [Nat.zero_add, expect_send m ρ c p hp])) $$ [Hcr HO Hat]
    · isplitr; · iapply (inv_at m ρ K (kSend c p)); iexact HR
      isplitl [Hcr]; · iexact Hcr
      isplitl [HO]; · iexact HO
      isplitr; · rw [MayWait_zero]; iempintro
      iexact Hat
    iintro ⟨HO, Hat, -, Hpay⟩
    ihave Hs := (Entails.of_eq (rest_send m ρ c p hp)) $$ Hpay
    imod (Rounds.cell_close ER (topRd m ρ) (Set.mem_univ (K (kSend c p))) (fun h => h) (R := 0 + 1) (duties_later m ρ (sendCell c p))) $$ [Hat] with Hz
    · isplitr; · iapply (inv_at m ρ K (kSend c p)); iexact HR
      iexact Hat
    iapply (wp_sents k l _ fun q hq => hl q (List.mem_cons_of_mem _ hq)) $$ [HO Hl]
    · isplitr; · iexact HR
      isplitl [HO] <;> iassumption
    iintro ⟨HO, Hl⟩
    iapply Hk
    isplitl [HO]; · iexact HO
    isplitl [Hs Hz]
    · isplitl [Hs] <;> iassumption
    iexact Hl

/-- The loads of the slots, the buffer held whole: each reads its device's candidates. -/
theorem wp_reads {Q : Unit → sProp 𝕄} (k : (Dev nD → Vec F S1x256x8 .f32) → PP F) (A : Dev nD → FVec F S256x8 .f32) :
    ∀ (l : List (Dev nD)) (g : Dev nD → Vec F S1x256x8 .f32),
    (((c : Thread nD τ).loc cc0_scratch1) ↦{fullShare} gather A : sProp 𝕄)
      ⊢ iprop(((((c : Thread nD τ).loc cc0_scratch1) ↦{fullShare} gather A)
            -∗ wp frame (wpE (defs₀ (F := F)) 𝒱₀ (c : Thread nD τ) none) Set.univ
                (k fun j => if j ∈ l then shapeCast S1x256x8 (A j) shapeCasts_S256x8_S1x256x8 else g j) Q)
          -∗ wp frame (wpE (defs₀ (F := F)) 𝒱₀ (c : Thread nD τ) none) Set.univ (reads l g k) Q)
  | [], g => by
    iintro H Hk
    unfold reads
    simp only [List.not_mem_nil, if_false]
    iapply Hk; iexact H
  | p :: l, g => by
    iintro H Hk
    unfold reads
    iapply (wp_load 𝒱₀ (c : Thread nD τ) none Set.univ (m := rM) (Finset.subset_univ _)) $$ H; iintro H
    rw [slot_read]
    iapply (wp_reads k A l _) $$ H; iintro H
    have e : (fun j => if j ∈ l then shapeCast S1x256x8 (A j) shapeCasts_S256x8_S1x256x8
          else if j = p then shapeCast S1x256x8 (A p) shapeCasts_S256x8_S1x256x8 else g j)
        = fun j => if j ∈ p :: l then shapeCast S1x256x8 (A j) shapeCasts_S256x8_S1x256x8 else g j := by
      funext j
      by_cases hj : j ∈ l
      · rw [if_pos hj, if_pos (List.mem_cons_of_mem _ hj)]
      · rw [if_neg hj]
        by_cases hp : j = p
        · subst hp; rw [if_pos rfl, if_pos (List.mem_cons_self ..)]
        · rw [if_neg hp, if_neg fun h => (List.mem_cons.mp h).elim hp hj]
    rw [e]
    iapply Hk; iexact H

end Phases

end Cert.TopK

end
-- ==== Proof.Run.lean ====
module

public import proofs.«01_k».proof.Proof.Protocol
public import proofs.«01_k».proof.Proof.Gen.KernelIdeal.Points

/-!
# The body from launch to exit

The phases in order: a device deals its receive buffer out to its peers, waits until it holds its own slot of everybody,
stores its candidates in its own slot and splits the buffer it copies from among its copies, and after the last arrival
holds its receive buffer whole again, everybody's candidates in it.
-/

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Memory -/

theorem z2 : (![0, 0] : Fin 2 → Nat) = fun _ => 0 := funext fun a => by fin_cases a <;> rfl

theorem read_x (f : (cc0_stg0_0 : Ref sig .tc).ty.Contents (Elt F)) : (xM : Memref sig .tc .vmem S256x1024 .f32).view.readAt (Elt F) rx.toLoadRect f = f :=
  Memref.readAt_unit_zero (Elt F) cc0_stg0_0 z2 _ f
theorem write_cand (f w : (cc0_scratch0 : Ref sig .tc).ty.Contents (Elt F)) :
    ((cM : Memref sig .tc .vmem S256x8 .f32).access r0 : View sig .tc _ _ _).write (Elt F) f w Finset.univ = w :=
  Memref.write_access_unit_zero_univ (Elt F) cc0_scratch0 z2 _ f w
theorem write_out (f w : (cc0_stg1_0 : Ref sig .tc).ty.Contents (Elt F)) :
    ((oM : Memref sig .tc .vmem S256x8 .f32).access r0 : View sig .tc _ _ _).write (Elt F) f w Finset.univ = w :=
  Memref.write_access_unit_zero_univ (Elt F) cc0_stg1_0 z2 _ f w

theorem slot_load (p : Dev nD) : (rM : Memref sig .tc .vmem S32x256x8 .f32).view.setOn (slotRect p).toLoadRect.set ⊆ slotSet p := fun i hi => by
  obtain ⟨j, hj, rfl⟩ := Finset.mem_map.mp hi
  refine mem_slotSet.mpr ?_
  obtain ⟨k, hk, h⟩ := (LoadRect.mem_set _).mp hj 0
  have hk : k < 1 := hk
  have h : (j 0).val = p.val + 1 * k := h
  show (j 0).val = p.val
  omega
theorem slot_store (p : Dev nD) : (rM.access (slotRect p) : View sig .tc _ _ _).setOn Finset.univ ⊆ slotSet p := by
  rw [View.setOn_univ, access_set]

/-- A receive buffer held whole is its slots. -/
theorem slots_eq (c : Dev nD) (f : (cc0_scratch1 : Ref sig .tc).ty.Contents (Elt F)) :
    (((c : Thread nD τ).loc cc0_scratch1) ↦{fullShare} f : sProp 𝕄) = iprop(slotPts c c f ∗ sepL (peers c) fun p => slotPts c p f) := by
  rw [← all_eq c fun p => slotPts c p f]
  exact Ring.pointsTo_blocks (ℓ := (c : Thread nD τ).loc cc0_scratch1) slotSet slotSet_disjoint slotSet_cover f
/-- A candidates buffer held whole is its copies' shares. -/
theorem shares_eq (c : Dev nD) :
    (((c : Thread nD τ).loc cc0_scratch0) ↦{fullShare} (cand m ρ c : (cc0_scratch0 : Ref sig .tc).ty.Contents (Elt F)) : sProp 𝕄)
      = iprop(candPts m ρ c c ∗ sepL (peers c) fun p => candPts m ρ c p) := by
  rw [← all_eq c fun p => candPts m ρ c p]
  exact pointsTo_leaves Finset.univ _ 5 fullShare

theorem cand_eq (c : Dev nD) : shapeCast S256x8 (candOf (xstg m ρ c)) shapeCasts_S256x8_S256x8 = cand m ρ c := shapeCast_self _ _

/-- All slots loaded: the result of the loads is everybody's candidates. -/
theorem wp_reads_all {Q : Unit → sProp 𝕄} (c : Dev nD) (k : (Dev nD → Vec F S1x256x8 .f32) → PP F) (A : Dev nD → FVec F S256x8 .f32)
    (g : Dev nD → Vec F S1x256x8 .f32) :
    (((c : Thread nD τ).loc cc0_scratch1) ↦{fullShare} gather A : sProp 𝕄)
      ⊢ iprop(((((c : Thread nD τ).loc cc0_scratch1) ↦{fullShare} gather A)
            -∗ wp frame (wpE (defs₀ (F := F)) 𝒱₀ (c : Thread nD τ) none) Set.univ (k fun j => shapeCast S1x256x8 (A j) shapeCasts_S256x8_S1x256x8) Q)
          -∗ wp frame (wpE (defs₀ (F := F)) 𝒱₀ (c : Thread nD τ) none) Set.univ (reads (List.finRange 32) g k) Q) := by
  have h := wp_reads c (Q := Q) k A (List.finRange 32) g
  rwa [show (fun j : Dev nD => if j ∈ List.finRange 32 then shapeCast S1x256x8 (A j) shapeCasts_S256x8_S1x256x8 else g j)
    = fun j => shapeCast S1x256x8 (A j) shapeCasts_S256x8_S1x256x8 from funext fun j => if_pos (List.mem_finRange j)] at h

/-! ## What a device starts from and ends with -/

/-- The tokens of the duties `c` pays: a peer's barrier duty, a peer's receive duty, its own send duty. -/
def payToks (c : Dev nD) : sProp 𝕄 :=
  bigSep Finset.univ fun p : Dev nD => iprop(dutyTok ER (barCell p) 0 c ∗ dutyTok ER (recvCell p c) 0 c ∗ dutyTok ER (sendCell c p) 0 p)

/-- The device's positions at its cells and those tokens. -/
def linear (c : Dev nD) : sProp 𝕄 :=
  iprop((atPos ER (barCell c) 0 ∅ 0 ∗ (bigSep Finset.univ fun p => atPos ER (sendCell c p) 0 ∅ 0) ∗ bigSep Finset.univ fun p => atPos ER (recvCell c p) 0 ∅ 0)
    ∗ payToks c)

/-- What is known of every cell, and the device's own ghost state. -/
def ghost (K : Dev nD × CK → ℕ) (c : Dev nD) : sProp 𝕄 := iprop(records m ρ K ∗ linear c)

/-- With the credit of its barrier and receive cells and the levels. -/
def start (c : Dev nD) : sProp 𝕄 :=
  iprop((∃ K, ghost m ρ K c) ∗ cred (tallyAt (barCell c) () 31) ∗ (sepL (peers c) fun p => cred (tallyAt (recvCell c p) () N)) ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- At exit both buffers are whole and every cell is at zero. -/
def Φ₁ (c : Dev nD) : sProp 𝕄 :=
  iprop(((c : Thread nD τ).loc cc0_scratch0 ↦{fullShare} (cand m ρ c : (cc0_scratch0 : Ref sig .tc).ty.Contents (Elt F)))
    ∗ ((c : Thread nD τ).loc cc0_scratch1 ↦{fullShare} gather (cand m ρ))
    ∗ ((bigSep Finset.univ fun p => semVal (sendCell c p) 0) ∗ bigSep Finset.univ fun p => semVal (recvCell c p) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

/-- A cell no duty ever pays closes from the start. -/
theorem close_own (K : Dev nD × CK → ℕ) (c : Dev nD) (k : Dev nD → SemLoc sig) (κ : Dev nD × CK) (hκ : kcell κ = ((c : Thread nD τ), k c))
    (hk : k = (fun p => .dma (sendS p)) ∨ k = fun p => .dma (recvS p)) :
    iprop(records m ρ K ∗ atPos ER ((c : Thread nD τ), k c) 0 ∅ 0) ⊢ |={Set.univ}=> semVal ((c : Thread nD τ), k c) 0 := by
  rw [← hκ]
  iintro ⟨#HR, Hat⟩
  iapply (Rounds.cell_close ER (topRd m ρ) (Set.mem_univ (K κ)) (fun h => h) (R := 0)
    (fun r hr => by rw [hκ]; exact duties_own m ρ c k hk r hr))
  isplitr; · iapply (inv_at m ρ K κ); iexact HR
  iexact Hat

set_option maxHeartbeats 1600000 in
set_option maxRecDepth 4000 in
theorem sound_body (c : Dev nD) :
    bodyPre m ρ c ⊢ wp frame (wpE (defs₀ (F := F)) 𝒱₀ (c : Thread nD τ) none) Set.univ
      (cc0_body (F := F) xM (Memref.isWhole_whole _) oM (Memref.isWhole_whole _) cM (Memref.isWhole_whole _) rM (Memref.isWhole_whole _) cc0_scratch2 cc0_scratch3)
      (fun _ => bodyPost m ρ c) := by
  rw [body_eq, wp_deviceId]
  unfold bodyPre Φ₀ start ghost linear payToks
  iintro ⟨⟨⟨⟨%K, #HR, ⟨HatB, HatS, HatV⟩, Htok⟩, HcB, HcV, #Hlev⟩, ⟨%fc, Hc⟩, ⟨%fr, Hr⟩⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  -- the peers' parts, in the order the body visits them
  ihave Htok' := (Entails.of_eq (all_eq c _)) $$ Htok
  icases Htok' with ⟨-, Htok⟩
  ihave Htok' := (sepL_unsep _ _ (peers c)) $$ Htok
  icases Htok' with ⟨HtB, HtRS⟩
  ihave HatS' := (Entails.of_eq (all_eq c _)) $$ HatS
  icases HatS' with ⟨HatS0, HatS⟩
  ihave HatV' := (Entails.of_eq (all_eq c _)) $$ HatV
  icases HatV' with ⟨HatV0, HatV⟩
  ihave Hr' := (Entails.of_eq (slots_eq c fr)) $$ Hr
  icases Hr' with ⟨Hown, Hslots⟩
  ihave Hslots' := (sepL_mono _ (fun p => iprop(∃ f, slotPts c p f)) (fun p => by iintro H; iexists fr; iexact H) (peers c)) $$ Hslots
  unfold plain prog
  -- the signals
  iapply (wp_sigs m ρ K c (O₁ c) W _ (peers c) (peers_ne c)) $$ [HO Hslots' HtB]
  · isplitr; · iexact HR
    isplitl [HO]; · unfold O₀; iexact HO
    iapply (sepL_sep _ _ (peers c))
    isplitl [Hslots'] <;> iassumption
  iintro HO
  -- the barrier wait
  iapply (Rounds.wp_wait_rest_token 𝒱₀ ER (topRd m ρ) (c : Thread nD τ) none (κ := K (kBar c))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iapply (inv_at m ρ K (kBar c)); iexact HR
    isplitl [HcB]; · iexact HcB
    isplitl [HO]; · iexact HO
    isplitr; · iapply (mayWait_bar c); iexact Hlev
    iexact HatB
  iintro ⟨HO, HatB, -, Hpay⟩
  ihave Hbar := (Entails.of_eq (rest_bar m ρ c)) $$ Hpay
  imod (Rounds.cell_close ER (topRd m ρ) (Set.mem_univ (K (kBar c))) (fun h => h) (R := 0 + 1) (duties_later m ρ (barCell c))) $$ [HatB] with HzB
  · isplitr; · iapply (inv_at m ρ K (kBar c)); iexact HR
    iexact HatB
  -- the loads and stores
  iapply (wp_load 𝒱₀ (c : Thread nD τ) none Set.univ (m := xM) (Finset.subset_univ _)) $$ Hx; iintro Hx
  rw [read_x]
  iapply (wp_load 𝒱₀ (c : Thread nD τ) none Set.univ (m := cM) (Finset.subset_univ _)) $$ Hc; iintro Hc
  iapply (wp_store 𝒱₀ (c : Thread nD τ) none Set.univ (m := cM) (r := r0) (Mk := Finset.univ) (Finset.subset_univ _)) $$ Hc; iintro Hc
  rw [write_cand, cand_eq]
  unfold slotPts
  iapply (wp_load 𝒱₀ (c : Thread nD τ) none Set.univ (m := rM) (slot_load c)) $$ Hown; iintro Hown
  iapply (wp_store 𝒱₀ (c : Thread nD τ) none Set.univ (m := rM) (r := slotRect c) (Mk := Finset.univ) (slot_store c)) $$ Hown; iintro Hown
  ihave Hown' := (Entails.of_eq (pointsTo_congr fun i hi => own_write (cand m ρ) c fr i hi)) $$ Hown
  -- the copies
  ihave Hc' := (Entails.of_eq (shares_eq m ρ c)) $$ Hc
  icases Hc' with ⟨Hc0, Hcs⟩
  iapply (wp_sends m ρ K c _ _ (peers c) (peers_ne c)) $$ [HO Hcs Hbar HtRS]
  · isplitr; · iexact HR
    isplitl [HO]; · unfold O₁; iexact HO
    iapply (sepL_sep _ _ (peers c))
    isplitl [Hcs]; · iexact Hcs
    iapply (sepL_sep _ _ (peers c))
    isplitl [Hbar]; · iexact Hbar
    iapply (sepL_mono _ _ (fun p => by iintro ⟨H1, H2⟩; isplitl [H2] <;> iassumption) (peers c)) $$ HtRS
  iintro ⟨HO, HcS⟩
  -- the arrivals
  iapply (wp_recvs m ρ K c _ (peers c) _ (peers_ne c)) $$ [HO HcV HatV]
  · isplitr; · iexact HR
    isplitl [HO]; · iexact HO
    iapply (sepL_sep _ _ (peers c))
    isplitl [HcV] <;> iassumption
  iintro ⟨⟨%W1, HO⟩, Hback⟩
  ihave Hback' := (sepL_unsep _ _ (peers c)) $$ Hback
  icases Hback' with ⟨Hslots, HzV⟩
  ihave Hr := (Entails.of_eq (slots_eq c (gather (cand m ρ))).symm) $$ [Hown' Hslots]
  · isplitl [Hown']; · unfold slotPts; iexact Hown'
    iexact Hslots
  iapply (wp_reads_all c _ (cand m ρ) _) $$ Hr; iintro Hr
  -- the result
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  -- the departures
  iapply (wp_sents m ρ K c _ (peers c) _ (peers_ne c)) $$ [HO HcS HatS]
  · isplitr; · iexact HR
    isplitl [HO]; · iexact HO
    iapply (sepL_sep _ _ (peers c))
    isplitl [HcS] <;> iassumption
  iintro ⟨⟨%W2, HO⟩, Hback⟩
  ihave Hback' := (sepL_unsep _ _ (peers c)) $$ Hback
  icases Hback' with ⟨Hcs, HzS⟩
  ihave Hc := (Entails.of_eq (shares_eq m ρ c).symm) $$ [Hc0 Hcs]
  · isplitl [Hc0] <;> iassumption
  imod (close_own m ρ K c (fun p => .dma (sendS p)) (kSend c c) rfl (.inl rfl)) $$ [HatS0] with HzS0
  · isplitr; · iexact HR
    iexact HatS0
  imod (close_own m ρ K c (fun p => .dma (recvS p)) (kRecv c c) rfl (.inr rfl)) $$ [HatV0] with HzV0
  · isplitr; · iexact HR
    iexact HatV0
  rw [wp_ret]; imodintro
  unfold bodyPost Φ₁ Dat.owesAt Pipeline.owesWithin
  rw [show (dats m ρ 0 c).owed t0_0.succ = 0 from rfl, all_eq c fun p => semVal (sendCell c p) 0, all_eq c fun p => semVal (recvCell c p) 0]
  isplitl [Hc Hr HzS0 HzS HzV0 HzV HzB]
  · isplitl [Hc]; · iexact Hc
    isplitl [Hr]; · iexact Hr
    isplitl [HzS0 HzS HzV0 HzV]
    · isplitl [HzS0 HzS]
      · isplitl [HzS0] <;> iassumption
      · isplitl [HzV0] <;> iassumption
    iexact HzB
  isplitl [HO]
  · iexists W2
    isplitr; · ipureintro; exact fun _ _ => Or.inl trivial
    iexact HO
  isplitl [Hx]
  · iexists _; isplitr; · (ipureintro; rfl)
    iexact Hx
  iexists (outAt m ρ c); isplitr; · (ipureintro; rfl)
  iexact Hout

set_option maxRecDepth 100000 in
theorem body_obligation (c : Dev nD) : BodyObligation (dats (F := F) m ρ 0 c) (defs₀ (F := F)) 𝒱₀ () Set.univ := fun t => by
  rw [fin_N0 t, bigSep_W0, bigSep_W0]
  simp only [owns_whole_eq]
  exact sound_body m ρ c

end Cert.TopK

end
-- ==== Proof.Launch.lean ====
module

public import proofs.«01_k».proof.Proof.Run
public import Idealize.ShloMosaic.Lib.Pipeline.CollectiveSegs

/-!
# The launch

The ghost state of all cells is made at once and dealt out: each device gets the tokens of the duties it pays, its own
positions, and what is known of everybody's cells. Then the run of @main from any memory with zero counters.
-/

@[expose] public section

noncomputable section

namespace Cert.TopK

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel

theorem share_eq (c : Dev nD) (w : Fin cfg0.W) : (dats m ρ 0 c).share w = fullShare := by unfold Dat.share; split <;> rfl

theorem csem_inj : Function.Injective csem := by decide +kernel

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_inj (congrArg Prod.snd h)
  rw [h1, h2]
def topCells : Finset (GSem nD τ sig) := Finset.univ.map ⟨kcell, kcell_injective⟩

/-- The tokens of device `t.1`'s cells: of the barrier duty, the receive duty and the send duty named `t.2.1`. -/
abbrev tokOf (t : Dev nD × (Dev nD × Fin 3)) : GSem nD τ sig × ℕ × Dev nD := match t.2.2 with
  | 0 => (barCell t.1, 0, t.2.1) | 1 => (recvCell t.1 t.2.1, 0, t.2.1) | 2 => (sendCell t.1 t.2.1, 0, t.2.1)
theorem tokOf_injective : Function.Injective tokOf := by
  rintro ⟨c, p, j⟩ ⟨c', p', j'⟩ h
  have h1 : c = c' := by
    have := congrArg (fun x : GSem nD τ sig × ℕ × Dev nD => x.1.1.1) h
    fin_cases j <;> fin_cases j' <;> exact this
  have h2 : p = p' := by
    have := congrArg (fun x : GSem nD τ sig × ℕ × Dev nD => x.2.2) h
    fin_cases j <;> fin_cases j' <;> exact this
  subst h1 h2
  have h3 := congrArg (fun x : GSem nD τ sig × ℕ × Dev nD => x.1.2) h
  have : j = j' := by
    fin_cases j <;> fin_cases j' <;>
      first | rfl | exact absurd h3 (dma_ne_bar _) | exact absurd h3.symm (dma_ne_bar _) | exact absurd (dma_inj h3) (sendS_ne_recvS _ _) | exact absurd (dma_inj h3).symm (sendS_ne_recvS _ _)
  rw [this]
def topToks : Finset (GSem nD τ sig × ℕ × Dev nD) := Finset.univ.map ⟨tokOf, tokOf_injective⟩

def u₀ : UU :=
  (initOf (Pipeline.cells cfgs cellOf_inj) (Pipeline.launchToks cfgs cellOf_inj), initOf topCells topToks)

/-- The tokens of a device's own cells. -/
def toks (c : Dev nD) : sProp 𝕄 :=
  bigSep Finset.univ fun p : Dev nD => iprop(dutyTok ER (barCell c) 0 p ∗ dutyTok ER (recvCell c p) 0 p ∗ dutyTok ER (sendCell c p) 0 p)

def G (c : Dev nD) : sProp 𝕄 :=
  iprop((bigSep Finset.univ fun k : CK => roundState ER (topRd m ρ) (kcell (c, k)) 0)
    ∗ (bigSep Finset.univ fun k : CK => iprop(atPos ER (kcell (c, k)) 0 ∅ 0 ∗ reached ER (kcell (c, k)) 0)) ∗ toks c)

def G' (c : Dev nD) : sProp 𝕄 := iprop(∃ K, ghost m ρ K c)

theorem bigSep_three (Φ : Fin 3 → sProp 𝕄) : bigSep Finset.univ Φ = iprop(Φ 0 ∗ Φ 1 ∗ Φ 2) := bigSep_univ_eq_bigSepL [0, 1, 2] (by decide) (by decide) Φ

theorem fund_top : BI.own (ER (initOf topCells topToks)) ⊢ (|==> bigSep Finset.univ (G m ρ) : sProp 𝕄) := by
  have hX (Φ : GSem nD τ sig → sProp 𝕄) : bigSep topCells Φ = bigSep Finset.univ fun c : Dev nD => bigSep Finset.univ fun k : CK => Φ (kcell (c, k)) := by
    unfold topCells; rw [bigSep_map, bigSep_univ_prod]; rfl
  have hT : bigSep topToks (fun x => (dutyTok ER x.1 x.2.1 x.2.2 : sProp 𝕄)) = bigSep Finset.univ fun c : Dev nD => toks c := by
    unfold topToks; rw [bigSep_map, bigSep_univ_prod]
    refine bigSep_congr fun c _ => ?_
    unfold toks; rw [bigSep_univ_prod]
    refine bigSep_congr fun p _ => ?_
    rw [bigSep_three]; rfl
  iintro HX
  imod (Rounds.fund ER (topRd m ρ) topCells topToks) $$ HX with ⟨Hst, Hr, Hat, Htok⟩
  imodintro
  ihave Hst' := (Entails.of_eq (hX fun g => roundState ER (topRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun p => semVal (sendCell c p) 0) ∗ bigSep Finset.univ fun p => semVal (recvCell c p) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

/-- A family over a device's cells: the barrier's, the sends', the receives'. -/
theorem bigSep_CK (Φ : CK → sProp 𝕄) : bigSep Finset.univ Φ
    = iprop(Φ (.inl ()) ∗ (bigSep Finset.univ fun p => Φ (.inr (.inl p))) ∗ bigSep Finset.univ fun p => Φ (.inr (.inr p))) := by
  rw [bigSep_univ_sum, bigSep_univ_sum, bigSep_univ_of_subsingleton ()]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (topRd m ρ) κ (kcell (c, k))))
          ∗ (bigSep Finset.univ fun k => iprop(atPos ER (kcell (c, k)) 0 ∅ 0 ∗ reached ER (kcell (c, k)) 0)) ∗ toks c) := by
  have halloc : iprop((bigSep Finset.univ fun k : CK => semVal (kcell (c, k)) 0) ∗ bigSep Finset.univ fun k : CK => roundState ER (topRd m ρ) (kcell (c, k)) 0)
      ⊢ (|={Set.univ}=> bigSep Finset.univ fun k => iprop(∃ κ : ℕ, cellInv ER (topRd m ρ) κ (kcell (c, k))) : sProp 𝕄) := by
    rw [← bigSep_sep']
    exact (bigSep_mono fun k _ => (Rounds.body_intro ER (topRd m ρ) (kcell (c, k))).trans inv_alloc).trans (bigSep_fupd _ _)
  unfold G
  rw [ownSems0_eq, unscopedSems0_eq]
  iintro ⟨⟨HS, HV⟩, HB, Hst, Hat, Htok⟩
  imod halloc $$ [HS HV HB Hst] with Hinv
  · isplitr [Hst]
    · rw [bigSep_CK]
      isplitl [HB]; · iexact HB
      isplitl [HS] <;> iassumption
    iexact Hst
  imodintro
  isplitl [Hinv]; · iexact Hinv
  isplitl [Hat] <;> iassumption

/-- The tokens go from the device whose cell it is to the device that pays. -/
theorem toks_around : (bigSep Finset.univ fun c : Dev nD => (toks c : sProp 𝕄)) ⊢ bigSep Finset.univ fun c : Dev nD => payToks c := by
  unfold toks payToks
  simp only [bigSep_sep']
  rw [bigSep_univ_comm fun c p : Dev nD => (dutyTok ER (barCell c) 0 p : sProp 𝕄), bigSep_univ_comm fun c p : Dev nD => (dutyTok ER (recvCell c p) 0 p : sProp 𝕄)]

theorem dealt {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (topRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (topRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  have hlin : iprop((bigSep Finset.univ fun c : Dev nD => bigSep Finset.univ fun k : CK => (atPos ER (kcell (c, k)) 0 ∅ 0 : sProp 𝕄)) ∗ bigSep Finset.univ fun c : Dev nD => payToks c)
      ⊢ bigSep Finset.univ fun c : Dev nD => (linear c : sProp 𝕄) := by
    rw [← bigSep_sep']
    refine bigSep_mono fun c _ => ?_
    unfold linear; rw [bigSep_CK]; exact BI.Entails.refl _
  iintro ⟨HI, ⟨Hat, #HR⟩, Htok⟩
  ihave HK := (BI.bigSep_exists_pi Finset.univ (fun (ck : Dev nD × CK) (κ : ℕ) => (cellInv ER (topRd m ρ) κ (kcell ck) : sProp 𝕄))) $$ HI
  icases HK with ⟨%K, #HI⟩
  ihave Htk := (toks_around (F := F)) $$ Htok
  iapply (dealt (R := records m ρ K) (Φ := fun c => linear c) fun c _ => show iprop(records m ρ K ∗ linear c) ⊢ G' m ρ c from by
    unfold G' ghost; iintro H; iexists K; iexact H)
  isplitr
  · unfold records; isplitl; · iexact HI
    iexact HR
  iapply hlin
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem owed_bar (d c : Dev nD) : O₀ d (barCell c) () = if d = c then 0 else 1 := by
  have h1 : O₁ d (barCell c) () = 0 := Nat.eq_zero_of_not_pos fun h => by
    obtain ⟨p, hp⟩ := O₁_pos h
    exact dma_ne_bar _ (congrArg Prod.snd hp).symm
  have h2 : ∀ p : Dev nD, barT p (barCell c) () = if p = c then 1 else 0 := fun p => by
    unfold barT; rw [tallyAt_apply]
    by_cases h : p = c
    · subst h; rw [if_pos ⟨rfl, rfl⟩, if_pos rfl]
    · rw [if_neg (fun h' => h (congrArg (fun g : GSem nD τ sig => g.1.1) h'.1).symm), if_neg h]
  rw [O₀_apply, h1, Nat.zero_add, Finset.sum_congr rfl fun p _ => h2 p, Finset.sum_ite_eq' _ c fun _ => 1]
  by_cases h : d = c
  · subst h; rw [if_neg (Finset.notMem_erase _ _), if_pos rfl]
  · rw [if_pos (Finset.mem_erase.mpr ⟨Ne.symm h, Finset.mem_univ _⟩), if_neg h]

theorem owed_recv (d c p : Dev nD) (hp : p ≠ c) : O₀ d (recvCell c p) () = if d = p then N else 0 := by
  have h1 : ∑ q ∈ Finset.univ.erase d, barT q (recvCell c p) () = 0 := Finset.sum_eq_zero fun q _ => by
    unfold barT; rw [tallyAt_apply, if_neg fun h => dma_ne_bar _ (congrArg Prod.snd h.1)]
  have h2 : ∀ q : Dev nD, recvT d q (recvCell c p) () = if q = c then (if d = p then N else 0) else 0 := fun q => by
    unfold recvT; rw [tallyAt_apply]
    by_cases h : q = c ∧ d = p
    · obtain ⟨rfl, rfl⟩ := h; rw [if_pos ⟨rfl, rfl⟩, if_pos rfl, if_pos rfl]
    · rw [if_neg fun h' => h ⟨(congrArg (fun g : GSem nD τ sig => g.1.1) h'.1).symm, (recvS_inj _ _ (dma_inj (congrArg Prod.snd h'.1))).symm⟩]
      split
      · next h3 => rw [if_neg fun h4 => h ⟨h3, h4⟩]
      · rfl
  rw [O₀_apply, h1, Nat.add_zero, O₁_apply, Finset.sum_congr rfl fun q _ => h2 q, Finset.sum_ite_eq' _ c fun _ => if d = p then N else 0]
  by_cases h : d = p
  · subst h; rw [if_pos (Finset.mem_erase.mpr ⟨hp.symm, Finset.mem_univ _⟩)]
  · rw [if_neg h, ite_self]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p hp, Finset.sum_ite_eq' Finset.univ p fun _ => N,
    if_pos (Finset.mem_univ _)]

theorem creds (c : Dev nD) :
    (Pipeline.launchCred O₀ c : sProp 𝕄) ⊢ iprop(cred (tallyAt (barCell c) () 31) ∗ sepL (peers c) fun p => cred (tallyAt (recvCell c p) () N)) := by
  have hsub : (Finset.univ.erase c).map ⟨fun p : Dev nD => (SemLoc.dma (recvS p) : SemLoc sig), fun p q h => recvS_inj p q (dma_inj h)⟩
      ⊆ Finset.univ.erase (SemLoc.reg barS) := fun sm hsm => by
    obtain ⟨p, -, rfl⟩ := Finset.mem_map.mp hsm
    exact Finset.mem_erase.mpr ⟨dma_ne_bar _, Finset.mem_univ _⟩
  unfold Pipeline.launchCred
  rw [bigSep_univ_at _ (SemLoc.reg barS), launch_bar, ← others_eq c fun p => cred (tallyAt (recvCell c p) () N)]
  refine sep_mono_right ((bigSep_subset hsub).trans ?_)
  rw [bigSep_map]
  exact Entails.of_eq (bigSep_congr fun p hp => congrArg cred (launch_recv c p (Finset.ne_of_mem_erase hp)))

/-! ### The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hc, Hr⟩
  isplitl [Hs]; · iexact Hs
  isplitl [Hc] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hc, Hr, Hz, HzB⟩
  isplitl [HzB]; · iexact HzB
  isplitl [Hz]; · iexact Hz
  isplitl [Hc]
  · iexists _; iexact Hc
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters every weakly fair execution of @main on the thirty-two devices ends, the result
    arrays at the merge of everybody's candidates, `x` unchanged and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_top m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held, -/
theorem finalA_x (c : Dev nD) : finalA m ρ c (0 : Fin 2) = (s₀ m ρ).mem (win0_0.arr.view.loc (c : Thread nD τ)) :=
  (dats (F := F) m ρ 0 c).arrAt_in (0 : Fin 2) rfl _

end Cert.TopK

end
-- ==== Proof.Frames.lean ====
module

public import proofs.«01_k».proof.Defs
public import proofs.«01_k».proof.Proof.Launch
public import proofs.«01_k».proof.Proof.Gen.Kernel
public import proofs.«01_k».proof.Proof.Gen.ReferenceIdeal.Run

/-!
# The frames

The kernel as printed and the kernel with its mask constant named are one text; the run above is over any float values and
any reading of the name, so one run serves both.
-/

@[expose] public section

set_option maxRecDepth 100000

noncomputable section

namespace Cert.TopK

open Idealize.ShloMosaic Idealize.ShloMosaic.TcCoe Idealize.SL.Sem

/-- At the machine's floats the name is read as the constant that was written. -/
local instance : Named Bits where
  named _ _ {φ} bits := FloatOps.ofBits φ bits

open Cert.KernelIdeal in
/-- The two bodies are one text once the name is read as its constant. -/
theorem body_same (a0 : Memref sig .tc .vmem S256x1024 .f32) (h0 : a0.IsWhole) (a1 : Memref sig .tc .vmem S256x8 .f32) (h1 : a1.IsWhole)
    (a2 : Memref sig .tc .vmem S256x8 .f32) (h2 : a2.IsWhole) (a3 : Memref sig .tc .vmem S32x256x8 .f32) (h3 : a3.IsWhole)
    (a4 a5 : DmaSems sig S32) :
    Cert.Kernel.cc0_body (F := Bits) a0 h0 a1 h1 a2 h2 a3 h3 a4 a5 = cc0_body (F := Bits) a0 h0 a1 h1 a2 h2 a3 h3 a4 a5 := by
  sl_kernel_rfl

/-- Hence so are the two label tables. -/
theorem defs₀_same : Cert.Kernel.defs₀ (F := Bits) = Cert.KernelIdeal.defs₀ (F := Bits) := by
  funext κ ℓ a
  cases κ with
  | tc =>
    match ℓ, a with
    | 0, (t, s) => exact body_same _ _ _ _ _ _ _ _ _ _
  | scScalar _ => rfl
  | scVector _ _ => rfl
theorem defs_same : Cert.Kernel.defs (F := Bits) = Cert.KernelIdeal.defs (F := Bits) :=
  congrArg (Pipeline.defs Cert.KernelIdeal.pcfgs) defs₀_same

theorem frame_ideal : Cert.quiescent_KernelIdeal := fun m g _ =>
  (θ_run Cert.KernelIdeal.defs _ _).mono (fun _ h => ⟨fun c => (h.1 c 0).trans (finalA_x m g c), h.2⟩) (run_main (F := Ideal) m g)

theorem frame_kernel : Cert.quiescent_Kernel := fun m g _ => by
  have h := run_main (F := Bits) m g
  rw [← defs_same] at h
  exact (θ_run Cert.Kernel.defs _ _).mono (fun _ h => ⟨fun c => (h.1 c 0).trans (finalA_x (F := Bits) m g c), h.2⟩) h

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem preserves : Cert.preserves_Kernel_KernelIdeal :=
  IdealRules.named_const.statement Cert.KernelIdeal.κ "neg" .f32 0xFF61B1E6#32 ⊥ rfl

end Cert.TopK

end
-- ==== Proof.Counting.lean ====
module

public import Mathlib.Data.EReal.Basic
public import Mathlib.Data.Fintype.BigOperators
public import Mathlib.Logic.Equiv.Fin.Basic
public import Mathlib.Data.Fintype.Fin
public import Mathlib.Order.Interval.Finset.Fin
public import Mathlib.Algebra.Order.BigOperators.Group.Finset

/-!
# The top eight of a family of extended reals, by counting

An extended real is known once it is known which values other than `⊥` are at most it. So the `j`-th largest member of a
family is the one number that is at least `t ≠ ⊥` exactly when more than `j` members are. This states that property
(`IsTop`), that it determines the numbers, that repeated maximum with the found position emptied has it, that a
sorted listing has it, and that the top eight of the parts' top eights have it for the whole.
-/

@[expose] public section

noncomputable section

namespace Cert.TopK

open Finset

variable {ι : Type} [Fintype ι] [DecidableEq ι]

/-- How many members of the family are at least `t`. -/
def cnt (v : ι → EReal) (t : EReal) : ℕ := (univ.filter fun i => t ≤ v i).card

/-- `w j` is the `j`-th largest member of `v`, for every `j < k`; missing ones are `⊥`. -/
def IsTop {k : ℕ} (v : ι → EReal) (w : Fin k → EReal) : Prop := ∀ (j : Fin k) (t : EReal), t ≠ ⊥ → (t ≤ w j ↔ j.val < cnt v t)

omit [DecidableEq ι] in
theorem IsTop.unique {k : ℕ} {v : ι → EReal} {w w' : Fin k → EReal} (h : IsTop v w) (h' : IsTop v w') : w = w' := by
  have le : ∀ a b : EReal, (∀ t, t ≠ ⊥ → t ≤ a → t ≤ b) → a ≤ b := fun a b hab => by
    by_cases ha : a = ⊥
    · simp [ha]
    · exact hab a ha le_rfl
  funext j
  exact le_antisymm (le _ _ fun t ht hj => (h' j t ht).2 ((h j t ht).1 hj)) (le _ _ fun t ht hj => (h j t ht).2 ((h' j t ht).1 hj))

omit [DecidableEq ι] in
/-- A maximum is at least `t` exactly when some member is. -/
theorem le_max_iff_cnt {v : ι → EReal} {mx : EReal} (hle : ∀ i, v i ≤ mx) (hat : ∃ i, v i = mx) (t : EReal) :
    t ≤ mx ↔ 0 < cnt v t := by
  unfold cnt
  rw [card_pos]
  constructor
  · intro h; obtain ⟨i, hi⟩ := hat
    exact ⟨i, by simp [hi, h]⟩
  · rintro ⟨i, hi⟩
    exact (by simpa using hi : t ≤ v i).trans (hle i)

/-- Emptying one position of the maximum takes one off every count, as far as there is one to take. -/
theorem cnt_drop {v v' : ι → EReal} {f : ι} (hle : ∀ i, v i ≤ v f) (hv : ∀ i, v' i = if i = f then ⊥ else v i)
    {t : EReal} (ht : t ≠ ⊥) : cnt v' t = cnt v t - 1 := by
  unfold cnt
  have e : (univ.filter fun i => t ≤ v' i) = (univ.filter fun i => t ≤ v i).erase f := by
    ext i
    simp only [mem_filter, mem_univ, true_and, mem_erase, hv]
    by_cases hi : i = f <;> simp [hi, ht]
  rw [e]
  by_cases hf : f ∈ univ.filter fun i => t ≤ v i
  · rw [card_erase_of_mem hf]
  · rw [erase_eq_of_notMem hf]
    have : (univ.filter fun i => t ≤ v i) = ∅ := by
      ext i
      simp only [mem_filter, mem_univ, true_and, notMem_empty, iff_false] at hf ⊢
      exact fun h => hf (h.trans (hle i))
    rw [this]; rfl

/-- Rounds of maximum and emptying: if round `r + 1` is round `r` with a position of its maximum emptied, the
    maxima are the largest members in order. -/
theorem isTop_rounds {k : ℕ} (V : ℕ → ι → EReal) (w : ℕ → EReal) (f : ℕ → ι) (hle : ∀ r i, V r i ≤ w r)
    (hat : ∀ r, V r (f r) = w r) (hv : ∀ r i, V (r + 1) i = if i = f r then ⊥ else V r i) :
    IsTop (V 0) fun j : Fin k => w j := by
  have hc : ∀ (r : ℕ) (t : EReal), t ≠ ⊥ → cnt (V r) t = cnt (V 0) t - r := fun r t ht => by
    induction r with
    | zero => rfl
    | succ r ih => rw [cnt_drop (fun i => (hle r i).trans (hat r).ge) (hv r) ht, ih]; omega
  intro j t ht
  rw [le_max_iff_cnt (hle j) ⟨_, hat j⟩, hc _ _ ht]
  omega

omit [DecidableEq ι] in
/-- A descending listing of the family gives its largest members in order. -/
theorem isTop_sorted {n k : ℕ} (hk : k ≤ n) (v : ι → EReal) (σ : Fin n → ι) (hσ : Function.Bijective σ)
    (hs : ∀ i j, i < j → v (σ j) ≤ v (σ i)) : IsTop v fun j : Fin k => v (σ (j.castLE hk)) := by
  intro j t _
  have hcard : cnt v t = (univ.filter fun i => t ≤ v (σ i)).card :=
    (card_bij (fun i _ => σ i) (fun i hi => by simpa using hi) (fun a _ b _ h => hσ.1 h)
      (fun b hb => by obtain ⟨a, rfl⟩ := hσ.2 b; exact ⟨a, by simpa using hb, rfl⟩)).symm
  have hmono : ∀ i i' : Fin n, i ≤ i' → v (σ i') ≤ v (σ i) := fun i i' h => by
    rcases h.lt_or_eq with h | rfl
    · exact hs _ _ h
    · exact le_rfl
  rw [hcard]
  constructor
  · intro h
    have hsub : Finset.Iic (j.castLE hk) ⊆ univ.filter fun i => t ≤ v (σ i) := fun i hi => by
      simp only [mem_Iic] at hi
      simpa using h.trans (hmono _ _ hi)
    have := card_le_card hsub
    rw [Fin.card_Iic] at this
    simp only [Fin.val_castLE] at this
    omega
  · intro h
    by_contra hn
    have hsub : (univ.filter fun i => t ≤ v (σ i)) ⊆ Finset.Iio (j.castLE hk) := fun i hi => by
      simp only [mem_filter, mem_univ, true_and] at hi
      simp only [mem_Iio]
      by_contra hij
      exact hn (hi.trans (hmono _ _ (not_lt.1 hij)))
    have := card_le_card hsub
    rw [Fin.card_Iio] at this
    simp only [Fin.val_castLE] at this
    omega

/-- A family over `m` parts of `n` members each is counted part by part. -/
theorem cnt_parts {m n : ℕ} (v : Fin (m * n) → EReal) (t : EReal) :
    cnt v t = ∑ p : Fin m, cnt (fun k : Fin n => v (finProdFinEquiv (p, k))) t := by
  unfold cnt
  simp only [card_filter]
  rw [← Equiv.sum_comp finProdFinEquiv, Fintype.sum_prod_type]

omit [DecidableEq ι] in
/-- Among the `k` largest, as many are at least `t` as in the family, up to `k`. -/
theorem IsTop.cnt_eq {k : ℕ} {v : ι → EReal} {w : Fin k → EReal} (h : IsTop v w) {t : EReal} (ht : t ≠ ⊥) :
    cnt w t = min k (cnt v t) := by
  unfold cnt
  have e : (univ.filter fun j => t ≤ w j) = univ.filter fun j : Fin k => j.val < cnt v t :=
    filter_congr fun j _ => h j t ht
  rw [e, Fin.card_filter_val_lt]
  rfl

/-- The `k` largest of the parts' `k` largest are the `k` largest of the whole. -/
theorem IsTop.merge {m n k : ℕ} (v : Fin (m * n) → EReal) (w : Fin (m * k) → EReal) (o : Fin k → EReal)
    (hw : ∀ p : Fin m, IsTop (fun i : Fin n => v (finProdFinEquiv (p, i))) fun j : Fin k => w (finProdFinEquiv (p, j)))
    (ho : IsTop w o) : IsTop v o := by
  intro j t ht
  rw [ho j t ht, cnt_parts w, cnt_parts v]
  have e : ∀ p, cnt (fun k' : Fin k => w (finProdFinEquiv (p, k'))) t = min k (cnt (fun i : Fin n => v (finProdFinEquiv (p, i))) t) :=
    fun p => (hw p).cnt_eq ht
  simp only [e]
  by_cases hall : ∀ p, cnt (fun i : Fin n => v (finProdFinEquiv (p, i))) t ≤ k
  · simp only [min_eq_right (hall _)]
  · obtain ⟨p, hp⟩ := not_forall.1 hall
    have h1 := single_le_sum (f := fun p => min k (cnt (fun i : Fin n => v (finProdFinEquiv (p, i))) t)) (fun _ _ => Nat.zero_le _) (mem_univ p)
    have h2 := single_le_sum (f := fun p => cnt (fun i : Fin n => v (finProdFinEquiv (p, i))) t) (fun _ _ => Nat.zero_le _) (mem_univ p)
    have hj := j.isLt
    beta_reduce at h1 h2
    constructor <;> intro <;> omega

end Cert.TopK

end
-- ==== Proof.Rounds.lean ====
module

public import proofs.«01_k».proof.Proof.Body
public import proofs.«01_k».proof.Proof.Counting
public import Idealize.ShloMosaic.Lib.ValueLayoutCasts
public import Idealize.ShloMosaic.Lib.ValueLayout
public import Idealize.ShloMosaic.Lib.WordCmp
public import Idealize.ShloMosaic.Lib.Pointwise
public import Idealize.ShloMosaic.PureOps.Ideal.Laws

/-!
# The kernel's rounds

The kernel takes the top eight per row twice, once of its block (1024 columns) and once of what it gathered (256
columns), by the same eight rounds: the row's maximum, the first column that holds it, that column emptied. Here a round
is stated once for any number of columns, and read at the extended reals row by row.
-/

@[expose] public section

noncomputable section

namespace Cert.TopK

open Cert.KernelIdeal Cert.KernelIdeal.Gen
open Idealize.ShloMosaic hiding ix1 ix2 ix3
open Idealize.ShloMosaic.ValueIdx

/-- 256 rows of `W` columns. -/
abbrev SW (W : ℕ) : Shape := ⟨2, ![256, W]⟩

/-- What the operations of a round ask of the shapes. -/
structure Sides (W : ℕ) : Prop where
  red : (SW W).Reduces [1] S256
  bc : S256x1.Broadcasts (SW W)
  io : (SW W).Iotas .tc 32 [1]

section Text

variable {F : FTy → Type} [FloatOps F] [Named F] {W : ℕ} (hs : Sides W) (w : BitVec 32)

/-- Every row's maximum. -/
def rowMax (V : FVec F (SW W) .f32) : FVec F S256x1 .f32 :=
  shapeCast S256x1 (multiReduction .maximumf [1] S256 V 0xFF800000#32 hs.red (.inl rfl) rfl) shapeCasts_S256_S256x1

/-- The column number where a row holds its maximum, `w` elsewhere. -/
def firstCols (V : FVec F (SW W) .f32) : IVec (SW W) 32 :=
  select (cmpf .oeq V (broadcastTo (SW W) (rowMax hs V) hs.bc)) (iota .tc (SW W) 32 [1] hs.io) (broadcast (SW W) w)

/-- Every row's first column that holds the maximum. -/
def firstAt (V : FVec F (SW W) .f32) : IVec S256 32 := multiReductionI .minsi [1] S256 (firstCols hs w V) 2147483647#32 hs.red rfl

/-- The block with that column of every row emptied. -/
def dropMax (V : FVec F (SW W) .f32) : FVec F (SW W) .f32 :=
  select (cmpi .eq (iota .tc (SW W) 32 [1] hs.io) (broadcastTo (SW W) (shapeCast S256x1 (firstAt hs w V) shapeCasts_S256_S256x1) hs.bc))
    (broadcast (SW W) (Named.named κ "neg" 0xFF61B1E6#32)) V

/-- The block after `r` rounds. -/
def after (V : FVec F (SW W) .f32) : ℕ → FVec F (SW W) .f32
  | 0 => V
  | r + 1 => dropMax hs w (after V r)

/-- The maxima of eight rounds, side by side. -/
def topEight (V : FVec F (SW W) .f32) : FVec F S256x8 .f32 :=
  concatenate S256x8 1 (List.ofFn fun r : Fin 8 => ⟨S256x1, rowMax hs (after hs w V r)⟩)
    concatenates_S256x1_S256x1_S256x1_S256x1_S256x1_S256x1_S256x1_S256x1_S256x8_d1

theorem sides1024 : Sides 1024 := ⟨reduces_S256x1024_S256, broadcasts_S256x1_S256x1024, iota_S256x1024_d1_w32⟩
theorem sides256 : Sides 256 := ⟨reduces_S256x256_S256, broadcasts_S256x1_S256x256, iota_S256x256_d1_w32⟩

/-- The candidates are the top eight of the block. -/
theorem candOf_eq (x : Vec F S256x1024 .f32) :
    candOf x = topEight sides1024 1024#32 (shapeCast S256x1024 x shapeCasts_S256x1024_S256x1024) := rfl

/-- The thirty-two slots side by side. -/
def joined (g : Dev nD → Vec F S1x256x8 .f32) : FVec F S256x256 .f32 :=
  concatenate S256x256 1 (List.ofFn fun p : Fin 32 => ⟨S256x8, shapeCast S256x8 (g p) shapeCasts_S1x256x8_S256x8⟩)
    concatenates_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x8_S256x256_d1

/-- The merge is the top eight of the slots side by side. -/
theorem mergeOf_eq (g : Dev nD → Vec F S1x256x8 .f32) : mergeOf g = topEight sides256 256#32 (joined g) := rfl

end Text

/-! ## Read at the extended reals -/

section Values

variable {W : ℕ} (hs : Sides W)

theorem ofBits_lowest : (FloatOps.ofBits .f32 0xFF800000#32 : Ideal .f32) = (⊥ : EReal) := by
  show Ideal.ofBits .f32 0xFF800000#32 = ⊥
  simp [Ideal.ofBits, Ideal.ieee]

theorem named_neg : (Named.named κ "neg" 0xFF61B1E6#32 : Ideal .f32) = (⊥ : EReal) := rfl

/-- The fold of the maximum from `⊥` is at least every member and, over a nonempty family, one of them. -/
theorem fold_max_spec (hW : 0 < W) (v : Fin W → EReal) :
    (∀ i, v i ≤ (Finset.univ : Finset (Fin W)).fold max ⊥ v) ∧ ∃ i, v i = (Finset.univ : Finset (Fin W)).fold max ⊥ v := by
  have e : (Finset.univ : Finset (Fin W)).fold max ⊥ v = Finset.univ.sup v := rfl
  rw [e]
  refine ⟨fun i => Finset.le_sup (Finset.mem_univ i), ?_⟩
  obtain ⟨i, _, hi⟩ := Finset.exists_mem_eq_sup Finset.univ ⟨⟨0, hW⟩, Finset.mem_univ _⟩ v
  exact ⟨i, hi.symm⟩

/-- The fold of the signed minimum is the initial word or a member, and at most every one of them. -/
theorem fold_min_spec {ι : Type} [DecidableEq ι] (s : Finset ι) (init : BitVec 32) (g : ι → BitVec 32) :
    (s.fold IKind.minsi.op init g = init ∨ ∃ i ∈ s, s.fold IKind.minsi.op init g = g i)
      ∧ ∀ i ∈ s, (s.fold IKind.minsi.op init g).toInt ≤ (g i).toInt := by
  induction s using Finset.induction_on with
  | empty => exact ⟨Or.inl rfl, fun i hi => absurd hi (Finset.notMem_empty i)⟩
  | insert a s ha ih =>
    rw [Finset.fold_insert ha]
    generalize s.fold IKind.minsi.op init g = R at ih
    have hop : IKind.minsi.op (g a) R = if (g a).slt R then g a else R := rfl
    rw [hop]
    by_cases hlt : (g a).toInt < R.toInt
    · rw [show (g a).slt R = true from decide_eq_true hlt, if_pos rfl]
      refine ⟨Or.inr ⟨a, Finset.mem_insert_self a s, rfl⟩, fun i hi => ?_⟩
      rcases Finset.mem_insert.1 hi with rfl | hi
      · exact le_rfl
      · exact hlt.le.trans (ih.2 i hi)
    · rw [show (g a).slt R = false from decide_eq_false hlt, if_neg Bool.false_ne_true]
      refine ⟨ih.1.imp id fun ⟨i, hi, e⟩ => ⟨i, Finset.mem_insert_of_mem hi, e⟩, fun i hi => ?_⟩
      rcases Finset.mem_insert.1 hi with rfl | hi
      · exact not_lt.1 hlt
      · exact ih.2 i hi

/-- Row `r` of a block. -/
def row (V : FVec Ideal (SW W) .f32) (r : Fin 256) : Fin W → EReal := fun i => V (ix2 r i)

theorem lift_eq (r : Fin 256) (k : Fin W) : hs.red.lift (ix1 r) k = (ix2 r k : (SW W).Idx) := by
  funext a
  match a with
  | ⟨0, _⟩ => exact Fin.ext rfl
  | ⟨1, _⟩ => exact Fin.ext rfl

theorem rowMax_apply (V : FVec Ideal (SW W) .f32) (r : Fin 256) (u : Fin 1) :
    rowMax hs V (ix2 r u) = (Finset.univ : Finset (Fin W)).fold max ⊥ (row V r) := by
  unfold rowMax
  rw [shapeCast_a_a1_apply]
  refine (Ideal.multiReduction_maximumf_single V _ hs.red _ _ (ix1 r)).trans ?_
  rw [ofBits_lowest]
  exact congrArg (fun v : Fin W → EReal => (Finset.univ : Finset (Fin W)).fold max ⊥ v) (funext fun k => congrArg V (lift_eq hs r k))

theorem bc_apply {α : Type} (x : S256x1.Idx → α) (r : Fin 256) (k : Fin W) : broadcastTo (SW W) x hs.bc (ix2 r k) = x (ix2 r (0 : Fin 1)) := by
  refine broadcastTo_apply x hs.bc (ix2 r k) (ix2 r (0 : Fin 1)) fun a => ?_
  match a with
  | ⟨0, _⟩ => rfl
  | ⟨1, _⟩ => rfl

/-- The first column found is one, and its row holds the maximum there. -/
theorem firstAt_spec (hW : 0 < W) (hW' : W < 2 ^ 31 - 1) (V : FVec Ideal (SW W) .f32) (r : Fin 256) :
    ∃ f : Fin W, firstAt hs (BitVec.ofNat 32 W) V (ix1 r) = BitVec.ofNat 32 f.val
      ∧ row V r f = (Finset.univ : Finset (Fin W)).fold max ⊥ (row V r) := by
  classical
  obtain ⟨i₀, h₀⟩ := (fold_max_spec hW (row V r)).2
  obtain ⟨g, hg, hfold⟩ : ∃ g : Fin W → BitVec 32, g = firstCols hs (BitVec.ofNat 32 W) V ∘ hs.red.lift (ix1 r)
      ∧ firstAt hs (BitVec.ofNat 32 W) V (ix1 r) = (Finset.univ : Finset (Fin W)).fold IKind.minsi.op 2147483647#32 g :=
    ⟨_, rfl, (multiReductionI_eq_fold .minsi (firstCols hs (BitVec.ofNat 32 W) V) _ hs.red rfl (ix1 r)).trans
      (hs.red.fold_filter_drop_single _ _ _ _)⟩
  rw [hfold]
  have hgk : ∀ k : Fin W, g k = if row V r k = (Finset.univ : Finset (Fin W)).fold max ⊥ (row V r) then BitVec.ofNat 32 k.val else BitVec.ofNat 32 W := fun k => by
    have hgr : g k = firstCols hs (BitVec.ofNat 32 W) V (ix2 r k) := by rw [hg, ← lift_eq hs r k]; rfl
    rw [hgr]
    show Scalar.select (Ideal.cmp .oeq (V (ix2 r k)) (broadcastTo (SW W) (rowMax hs V) hs.bc (ix2 r k))) (iota .tc (SW W) 32 [1] hs.io (ix2 r k)) (BitVec.ofNat 32 W) = _
    rw [bc_apply hs, rowMax_apply]
    have hi : iota .tc (SW W) 32 [1] hs.io (ix2 r k) = BitVec.ofNat 32 k.val := iota_single_apply .tc (SW W) 32 1 hs.io _
    rw [hi]
    by_cases hk : row V r k = (Finset.univ : Finset (Fin W)).fold max ⊥ (row V r)
    · rw [if_pos hk]
      have : Ideal.cmp .oeq (V (ix2 r k)) ((Finset.univ : Finset (Fin W)).fold max ⊥ (row V r)) = 1#1 := by
        simp only [Ideal.cmp]; rw [show decide (V (ix2 r k) = _) = true from decide_eq_true hk]; rfl
      rw [this]; rfl
    · rw [if_neg hk]
      have : Ideal.cmp .oeq (V (ix2 r k)) ((Finset.univ : Finset (Fin W)).fold max ⊥ (row V r)) = 0#1 := by
        simp only [Ideal.cmp]; rw [show decide (V (ix2 r k) = _) = false from decide_eq_false hk]; rfl
      rw [this]; rfl
  have hsmall : ∀ n : ℕ, n < 2 ^ 31 → (BitVec.ofNat 32 n).toInt = n := fun n hn => by
    rw [BitVec.toInt_eq_toNat_cond, BitVec.toNat_ofNat]; omega
  obtain ⟨hor, hle⟩ := fold_min_spec (Finset.univ : Finset (Fin W)) 2147483647#32 g
  have hb := hle i₀ (Finset.mem_univ _)
  have hi₀ := i₀.isLt
  rw [hgk i₀, if_pos h₀, hsmall _ (by omega)] at hb
  rcases hor with e | ⟨f, _, e⟩
  · rw [e] at hb
    have : (2147483647#32 : BitVec 32).toInt = 2147483647 := rfl
    omega
  · refine ⟨f, ?_⟩
    by_cases hf : row V r f = (Finset.univ : Finset (Fin W)).fold max ⊥ (row V r)
    · exact ⟨e.trans ((hgk f).trans (if_pos hf)), hf⟩
    · rw [e, hgk f, if_neg hf, hsmall _ (by omega)] at hb
      omega

/-- One round empties, in every row, one position of the maximum. -/
theorem dropMax_spec (hW : 0 < W) (hW' : W < 2 ^ 31 - 1) (V : FVec Ideal (SW W) .f32) (r : Fin 256) :
    ∃ f : Fin W, row V r f = (Finset.univ : Finset (Fin W)).fold max ⊥ (row V r)
      ∧ ∀ i, row (dropMax hs (BitVec.ofNat 32 W) V) r i = if i = f then ⊥ else row V r i := by
  obtain ⟨f, hf, hm⟩ := firstAt_spec hs hW hW' V r
  refine ⟨f, hm, fun i => ?_⟩
  show Scalar.select (IntOp.cmpi .eq (iota .tc (SW W) 32 [1] hs.io (ix2 r i))
    (broadcastTo (SW W) (shapeCast S256x1 (firstAt hs (BitVec.ofNat 32 W) V) shapeCasts_S256_S256x1) hs.bc (ix2 r i)))
    (Named.named κ "neg" 0xFF61B1E6#32 : Ideal .f32) (V (ix2 r i)) = _
  rw [bc_apply hs, shapeCast_a_a1_apply, hf, named_neg]
  have hi : iota .tc (SW W) 32 [1] hs.io (ix2 r i) = BitVec.ofNat 32 i.val := iota_single_apply .tc (SW W) 32 1 hs.io _
  rw [hi]
  have h1 := i.isLt
  have h2 := f.isLt
  by_cases he : i = f
  · subst he
    rw [if_pos rfl]
    have : IntOp.cmpi .eq (BitVec.ofNat 32 i.val) (BitVec.ofNat 32 i.val) = 1#1 := by simp [IntOp.cmpi]
    rw [this]; rfl
  · rw [if_neg he]
    have hne : BitVec.ofNat 32 i.val ≠ BitVec.ofNat 32 f.val := fun e => he (Fin.ext (by
      have := congrArg BitVec.toNat e
      simp only [BitVec.toNat_ofNat] at this
      rwa [Nat.mod_eq_of_lt (by omega), Nat.mod_eq_of_lt (by omega)] at this))
    have : IntOp.cmpi .eq (BitVec.ofNat 32 i.val) (BitVec.ofNat 32 f.val) = 0#1 := by
      show BitVec.ofBool (BitVec.ofNat 32 i.val == BitVec.ofNat 32 f.val) = 0#1
      rw [beq_false_of_ne hne]; rfl
    rw [this]; rfl

/-- Column `j` of the eight maxima is the maximum of the block after `j` rounds. -/
theorem topEight_apply (w : BitVec 32) (V : FVec Ideal (SW W) .f32) (r : Fin 256) (j : Fin 8) :
    topEight hs w V (ix2 r j) = (Finset.univ : Finset (Fin W)).fold max ⊥ (row (after hs w V j.val) r) := by
  unfold topEight
  refine (concatenate_ofFn_unit_apply (t := S256x8) (s₁ := S256x1) 1 (fun r : Fin 8 => rowMax hs (after hs w V r)) _ rfl rfl (ix2 r j) j rfl (ix2 r (0 : Fin 1))
    (fun b hb => by
      match b with
      | ⟨0, _⟩ => rfl
      | ⟨1, _⟩ => exact absurd rfl hb)).trans ?_
  exact rowMax_apply hs _ r 0

/-- Every row of the eight maxima holds the row's eight largest in order. -/
theorem topEight_isTop (hW : 0 < W) (hW' : W < 2 ^ 31 - 1) (V : FVec Ideal (SW W) .f32) (r : Fin 256) :
    IsTop (row V r) fun j : Fin 8 => topEight hs (BitVec.ofNat 32 W) V (ix2 r j) := by
  have hx : (fun j : Fin 8 => topEight hs (BitVec.ofNat 32 W) V (ix2 r j))
      = fun j : Fin 8 => (Finset.univ : Finset (Fin W)).fold max ⊥ (row (after hs (BitVec.ofNat 32 W) V j.val) r) :=
    funext fun j => topEight_apply hs _ V r j
  rw [hx]
  choose f hf hv using fun n => dropMax_spec hs hW hW' (after hs (BitVec.ofNat 32 W) V n) r
  exact isTop_rounds (fun n => row (after hs (BitVec.ofNat 32 W) V n) r) _ f (fun n i => (fold_max_spec hW _).1 i) hf hv

/-- Column `8 p + j` of the slots side by side is column `j` of slot `p`. -/
theorem joined_apply (g : Dev nD → Vec Ideal S1x256x8 .f32) (r : Fin 256) (p : Fin 32) (j : Fin 8) :
    joined g (ix2 r (finProdFinEquiv (p, j) : Fin (32 * 8))) = g p (ix3 (0 : Fin 1) r j) := by
  have hp := p.isLt
  have hj := j.isLt
  have hv : (finProdFinEquiv (p, j) : Fin (32 * 8)).val = j.val + 8 * p.val := rfl
  unfold joined
  refine (concatenate_ofFn_apply (t := S256x256) (s₁ := S256x8) 1 (fun p : Fin 32 => shapeCast S256x8 (g p) shapeCasts_S1x256x8_S256x8) _ rfl 8 rfl
    (ix2 r (finProdFinEquiv (p, j) : Fin (32 * 8))) p (by show (finProdFinEquiv (p, j) : Fin (32 * 8)).val / 8 = p.val; omega) (ix2 r j)
    (by show j.val = (finProdFinEquiv (p, j) : Fin (32 * 8)).val % 8; omega)
    (fun b hb => by
      match b with
      | ⟨0, _⟩ => rfl
      | ⟨1, _⟩ => exact absurd rfl hb)).trans ?_
  exact shapeCast_1ab_ab_apply (g p) _ r j

end Values

end Cert.TopK

end
-- ==== Proof.Reference.lean ====
module

public import proofs.«01_k».proof.Proof.Gen.ReferenceIdeal.Run
public import proofs.«01_k».proof.Proof.Counting
public import Idealize.ShloMosaic.Lib.ValueLayout
public import Idealize.ShloMosaic.Lib.WordCmp
public import Idealize.ShloMosaic.Lib.SortFacts
public import Idealize.ShloMosaic.Lib.IdealHost
public import Idealize.ShloMosaic.PureOps.Ideal.Laws

/-!
# What the reference returns

The reference sorts the negated rows together with the column numbers, keeps the first eight column numbers and reads
`x` there. At the extended reals the sort's comparator is the strict order, so the values read are the row's in
descending order: its eight largest, ties included.
-/

@[expose] public section

noncomputable section

namespace Cert.TopK

open Cert.ReferenceIdeal Cert.ReferenceIdeal.Gen
open Idealize.ShloMosaic
open Idealize.ShloMosaic.ValueIdx Idealize.ShloMosaic.WordCmp

/-- The comparator at the extended reals: the first key is below the second. -/
theorem comparator_eq (l r : Ideal .f32 × BitVec 32) :
    comparator_f32_i32_d1 l r = BitVec.ofBool (decide ((l.1 : EReal) < r.1)) := by
  have hz : ∀ a : EReal, Scalar.select (FloatOps.cmpf .oeq (a : Ideal .f32) (FloatOps.ofBits .f32 0x00000000#32 : Ideal .f32))
      (FloatOps.ofBits .f32 0x00000000#32 : Ideal .f32) a = a := fun a => by
    show Scalar.select (BitVec.ofBool (decide (a = _))) _ _ = _
    by_cases h : a = (FloatOps.ofBits .f32 0x00000000#32 : Ideal .f32)
    · rw [decide_eq_true h]; exact h.symm
    · rw [decide_eq_false h]; rfl
  have hn : ∀ a b c : EReal, Scalar.select (FloatOps.cmpf (F := Ideal) (φ := .f32) .une a a) b c = c := fun a b c => by
    show Scalar.select (BitVec.ofBool (decide (a ≠ a))) _ _ = _
    rw [decide_eq_false (not_not.2 rfl)]; rfl
  unfold comparator_f32_i32_d1
  simp only [hz, hn]
  rfl

/-! ## A row's sort, slice and gather, for any extents -/

section Rows

variable {α β : Type} {R N K : ℕ}

theorem along_row (r : Fin R) (j k : Fin N) (h : 1 < 2) : Shape.Idx.along (s := ⟨2, ![R, N]⟩) (ix2 r j) ⟨1, h⟩ k = ix2 r k := by
  funext a
  match a with
  | ⟨0, _⟩ => rfl
  | ⟨1, _⟩ => rfl

/-- A sort of pairs along the rows reads the second operand at the row's sorted source. -/
theorem sort2_row (cmp : α × β → α × β → BitVec 1) (x : (⟨2, ![R, N]⟩ : Shape).Idx → α) (y : (⟨2, ![R, N]⟩ : Shape).Idx → β)
    (r : Fin R) (k : Fin N) :
    (Host.sort2 ⟨2, ![R, N]⟩ 1 cmp x y).2 (ix2 r k)
      = y (ix2 r (sortedFrom (fun i i' => cmp (x (ix2 r i), y (ix2 r i)) (x (ix2 r i'), y (ix2 r i')) == 1#1) k)) := by
  unfold Host.sort2
  rw [dif_pos (by decide : 1 < 2)]
  refine (congrArg y (along_row r k _ _)).trans ?_
  refine congrArg (fun σ : Fin N → Fin N => y (ix2 r (σ k))) (congrArg sortedFrom (funext fun i => funext fun i' => ?_))
  exact congrArg₂ (fun a b => cmp (x a, y a) (x b, y b) == 1#1) (along_row r k i _) (along_row r k i' _)

theorem slice_row (hK : K ≤ N) (x : (⟨2, ![R, N]⟩ : Shape).Idx → α) (h : (⟨2, ![R, N]⟩ : Shape).Slices ![0, 0] ⟨2, ![R, K]⟩)
    (r : Fin R) (j : Fin K) : extractStridedSlice ⟨2, ![R, K]⟩ ![0, 0] x h (ix2 r j) = x (ix2 r (j.castLE hK)) :=
  extractStridedSlice_apply ![0, 0] x h (ix2 r j) (ix2 r (j.castLE hK)) fun a => by
    match a with
    | ⟨0, _⟩ => exact (Nat.zero_add _).symm
    | ⟨1, _⟩ => exact (Nat.zero_add _).symm

/-- The dimension numbers of a gather along the rows: the row is a batching axis, the column is read. -/
abbrev rowDims (R N K : ℕ) (wf : GatherDims.WF ⟨2, ![R, N]⟩ ⟨3, ![R, K, 1]⟩ ⟨2, ![R, K]⟩ [] [1] [0] [1] [0] 2 ![1, 1]) :
    GatherDims ⟨2, ![R, N]⟩ ⟨3, ![R, K, 1]⟩ ⟨2, ![R, K]⟩ where
  offsetDims := []
  collapsedSliceDims := [1]
  operandBatchingDims := [0]
  startIndicesBatchingDims := [0]
  startIndexMap := [1]
  indexVectorDim := 2
  sliceSizes := ![1, 1]
  wf := wf

/-- The gather at `(r, j)` reads row `r` at the column its index names, when that column exists. -/
theorem gather_row (wf : GatherDims.WF ⟨2, ![R, N]⟩ ⟨3, ![R, K, 1]⟩ ⟨2, ![R, K]⟩ [] [1] [0] [1] [0] 2 ![1, 1])
    (x : (⟨2, ![R, N]⟩ : Shape).Idx → α) (idx : IVec ⟨3, ![R, K, 1]⟩ 32) (r : Fin R) (j : Fin K) (k : Fin N)
    (hk : (idx (ix3 r j (0 : Fin 1))).toInt = k.val) : Host.gather (rowDims R N K wf) x idx (ix2 r j) = x (ix2 r k) := by
  -- the row comes from the batching axis, the column from the index
  have hrow : (rowDims R N K wf).batchCoord (ix2 r j) (0 : Fin 2) = r.val := by
    rw [GatherDims.batchCoord, dif_pos (List.mem_singleton.mpr rfl)]
    rfl
  have hat : ∀ h : _, (rowDims R N K wf).siIdx (ix2 r j) ⟨List.idxOf (1 : Fin 2) (rowDims R N K wf).startIndexMap, h⟩ = ix3 r j (0 : Fin 1) :=
    fun h => funext fun
      | ⟨0, _⟩ => Fin.ext rfl
      | ⟨1, _⟩ => Fin.ext rfl
      | ⟨2, _⟩ => Fin.ext rfl
  have hcol : (rowDims R N K wf).start (ix2 r j) idx (1 : Fin 2) = k.val := by
    rw [GatherDims.start, dif_pos (show (1 : Fin 2) ∈ (rowDims R N K wf).startIndexMap from List.mem_singleton.mpr rfl), hat, hk]
    exact (congrArg (min · (N - 1)) (Int.toNat_natCast k.val)).trans (Nat.min_eq_left (Nat.le_sub_one_of_lt k.isLt))
  have hoff : ∀ a : Fin 2, (rowDims R N K wf).offCoord (ix2 r j) a = 0 := fun a =>
    GatherDims.offCoord_eq_zero _ _ _ fun h => by
      have h' := (GatherDims.mem_sKept _ _).mp h
      match a with
      | ⟨0, _⟩ => exact h'.2 (List.mem_singleton.mpr rfl)
      | ⟨1, _⟩ => exact h'.1 (List.mem_singleton.mpr rfl)
  refine congrArg x (funext fun
    | ⟨0, _⟩ => Fin.ext ?_
    | ⟨1, _⟩ => Fin.ext ?_)
  · show (rowDims R N K wf).start (ix2 r j) idx (0 : Fin 2) + (rowDims R N K wf).batchCoord (ix2 r j) (0 : Fin 2)
      + (rowDims R N K wf).offCoord (ix2 r j) (0 : Fin 2) = r.val
    rw [GatherDims.start_batching _ _ _ _ (List.mem_singleton.mpr rfl), hrow, hoff, Nat.zero_add, Nat.add_zero]
  · show (rowDims R N K wf).start (ix2 r j) idx (1 : Fin 2) + (rowDims R N K wf).batchCoord (ix2 r j) (1 : Fin 2)
      + (rowDims R N K wf).offCoord (ix2 r j) (1 : Fin 2) = k.val
    rw [GatherDims.batchCoord_eq_zero _ _ _ (fun h => by simp at h), hcol, hoff, Nat.add_zero]

end Rows

/-! ## The reference's text -/

variable (x : FVec Ideal S256x32768 .f32)

/-- Where the `k`-th of row `r`'s values, sorted, comes from. -/
def source (r : Fin 256) : Fin 32768 → Fin 32768 :=
  sortedFrom fun k k' => comparator_f32_i32_d1 (Host.negf x (ix2 r k), BitVec.ofNat 32 k.val) (Host.negf x (ix2 r k'), BitVec.ofNat 32 k'.val) == 1#1

theorem source_bijective (r : Fin 256) : Function.Bijective (source x r) := ⟨sortedFrom_injective _, sortedFrom_surjective _⟩

/-- The values come in descending order. -/
theorem source_sorted (r : Fin 256) (i j : Fin 32768) (hij : i < j) : (x (ix2 r (source x r j)) : EReal) ≤ x (ix2 r (source x r i)) := by
  have hB : ∀ k k' : Fin 32768, (comparator_f32_i32_d1 (Host.negf x (ix2 r k), BitVec.ofNat 32 k.val)
      (Host.negf x (ix2 r k'), BitVec.ofNat 32 k'.val) == 1#1) = decide ((x (ix2 r k') : EReal) < x (ix2 r k)) := fun k k' => by
    have hneg : ((Host.negf x (ix2 r k) : EReal) < (Host.negf x (ix2 r k') : EReal)) ↔ ((x (ix2 r k') : EReal) < x (ix2 r k)) :=
      EReal.neg_lt_neg_iff
    rw [comparator_eq]
    by_cases h : (x (ix2 r k') : EReal) < x (ix2 r k)
    · rw [decide_eq_true h, decide_eq_true (hneg.2 h)]; rfl
    · rw [decide_eq_false h, decide_eq_false (fun h' => h (hneg.1 h'))]; rfl
  have hs : source x r = sortedFrom fun k k' => decide ((x (ix2 r k') : EReal) < x (ix2 r k)) :=
    congrArg sortedFrom (funext fun k => funext fun k' => hB k k')
  rw [hs]
  have h := sortedFrom_noInversion (fun k k' => decide ((x (ix2 r k') : EReal) < x (ix2 r k)))
    (fun k k' => decide ((x (ix2 r k') : EReal) < x (ix2 r k)))
    (fun a b hab => decide_eq_false (not_lt.2 (of_decide_eq_true hab).le)) (fun _ _ h => h)
    (fun a b c hab hbc => decide_eq_false (not_lt.2 ((not_lt.1 (of_decide_eq_false hab)).trans (not_lt.1 (of_decide_eq_false hbc))))) i j hij
  exact not_lt.1 (of_decide_eq_false h)

/-- The first eight column numbers. -/
def cols : IVec S256x8 32 :=
  extractStridedSlice S256x8 ![0, 0] ((Host.sort2 S256x32768 1 comparator_f32_i32_d1 (Host.negf x) (iotaInDim S256x32768 32 1)).2) slices_S256x32768_S256x8_0_0

/-- The columns as gather indices, a negative one moved up by the row's length. -/
def starts : IVec S256x8x1 32 :=
  shapeCast S256x8x1 (select (cmpi .slt (cols x) (broadcastInDim S256x8 ![] bcast_S_S256x8 (constantI S_ 32 0#32)))
    (addi (cols x) (broadcastInDim S256x8 ![] bcast_S_S256x8 (constantI S_ 32 32768#32))) (cols x)) shapeCasts_S256x8_S256x8x1

/-- Whether a gather index lies in the row. -/
def inRow : IVec S256x8x1 1 :=
  andi (cmpi .sge (starts x) (broadcastInDim S256x8x1 ![] bcast_S_S256x8x1 (constantI S_ 32 0#32)))
    (cmpi .sle (starts x) (broadcastInDim S256x8x1 ![0, 1, 2] bcast_S1x1x1_S256x8x1_0_1_2 (broadcastInDim S1x1x1 ![2] bcast_S1_S1x1x1_2 (constantI S1 32 32767#32))))

/-- What the reference returns. -/
def refOut : FVec Ideal S256x8 .f32 :=
  select (Host.reduce IntOp.andi (inRow x) (constantI S_ 1 1#1) reducesTo_S256x8x1_S256x8_d2 h_S_)
    (Host.gather gather_S256x32768_S256x8x1_S256x8_n_1_0_0_1_2_11 x (starts x))
    (broadcastInDim S256x8 ![] bcast_S_S256x8 (constant S_ .f32 0x7FC00000#32))

/-- The source of result `(r, j)`. -/
abbrev src8 (r : Fin 256) (j : Fin 8) : Fin 32768 := source x r (j.castLE (by decide))

theorem cols_apply (r : Fin 256) (j : Fin 8) : cols x (ix2 r j) = BitVec.ofNat 32 (src8 x r j).val :=
  (slice_row (by decide) _ slices_S256x32768_S256x8_0_0 r j).trans (sort2_row comparator_f32_i32_d1 (Host.negf x) (iotaInDim S256x32768 32 1) r _)

theorem starts_apply (r : Fin 256) (j : Fin 8) (u : Fin 1) : starts x (ix3 r j u) = BitVec.ofNat 32 (src8 x r j).val := by
  have hlt := (src8 x r j).isLt
  refine (shapeCast_apply _ shapeCasts_S256x8_S256x8x1 (ix3 r j u) (ix2 r j) (by
    rw [Shape.rowMajor_val_three, Shape.rowMajor_val_two]
    show r.val * 8 + j.val = (r.val * 8 + j.val) * 1 + u.val
    omega)).trans ?_
  show Scalar.select (IntOp.cmpi .slt (cols x (ix2 r j)) 0#32) _ (cols x (ix2 r j)) = _
  rw [cols_apply]
  have : IntOp.cmpi .slt (BitVec.ofNat 32 (src8 x r j).val) 0#32 = 0#1 :=
    (cmpi_slt_ofNat_eq_zero_iff (w := 32) (b := 0) (by omega) (by omega)).2 (Nat.not_lt_zero _)
  rw [this]
  rfl

theorem inRow_apply (r : Fin 256) (j : Fin 8) (u : Fin 1) : inRow x (ix3 r j u) = 1#1 := by
  have hlt := (src8 x r j).isLt
  show IntOp.andi (IntOp.cmpi .sge (starts x (ix3 r j u)) 0#32) (IntOp.cmpi .sle (starts x (ix3 r j u)) 32767#32) = 1#1
  rw [starts_apply]
  have hi : (BitVec.ofNat 32 (src8 x r j).val).toInt = (src8 x r j).val := toInt_ofNat_of_lt (by omega)
  have h1 : IntOp.cmpi .sge (BitVec.ofNat 32 (src8 x r j).val) 0#32 = 1#1 := by
    show BitVec.ofBool (decide ((0#32).toInt ≤ (BitVec.ofNat 32 (src8 x r j).val).toInt)) = 1#1
    rw [hi, show (0#32 : BitVec 32).toInt = 0 from rfl, decide_eq_true (Int.natCast_nonneg _)]; rfl
  have h2 : IntOp.cmpi .sle (BitVec.ofNat 32 (src8 x r j).val) 32767#32 = 1#1 := by
    show BitVec.ofBool (decide ((BitVec.ofNat 32 (src8 x r j).val).toInt ≤ (32767#32).toInt)) = 1#1
    rw [hi, decide_eq_true (by have : (32767#32 : BitVec 32).toInt = 32767 := rfl
                               omega)]; rfl
  rw [h1, h2]
  rfl

theorem gather_apply (r : Fin 256) (j : Fin 8) :
    Host.gather gather_S256x32768_S256x8x1_S256x8_n_1_0_0_1_2_11 x (starts x) (ix2 r j) = x (ix2 r (src8 x r j)) :=
  gather_row _ x (starts x) r j (src8 x r j) (by
    have hlt := (src8 x r j).isLt
    rw [starts_apply, toInt_ofNat_of_lt (by omega)])

theorem refOut_apply (r : Fin 256) (j : Fin 8) : refOut x (ix2 r j) = x (ix2 r (src8 x r j)) := by
  have hm : Host.reduce IntOp.andi (inRow x) (constantI S_ 1 1#1) reducesTo_S256x8x1_S256x8_d2 h_S_ (ix2 r j) = 1#1 := by
    have hone : inRow x = fun _ => 1#1 := funext fun i => by rw [eq_ix3 i]; exact inRow_apply x _ _ _
    have hred : S256x8x1.Reduces [2] S256x8 := by decide
    rw [Host.reduce_eq_fold_single IntOp.andi _ _ _ hred, hone]
    show (Finset.univ : Finset (Fin 1)).fold IntOp.andi 1#1 (fun _ => 1#1) = 1#1
    rw [Finset.univ_unique, Finset.fold_singleton]
    rfl
  show Scalar.select (Host.reduce IntOp.andi (inRow x) (constantI S_ 1 1#1) reducesTo_S256x8x1_S256x8_d2 h_S_ (ix2 r j))
    (Host.gather gather_S256x32768_S256x8x1_S256x8_n_1_0_0_1_2_11 x (starts x) (ix2 r j)) _ = _
  rw [hm, gather_apply]
  rfl

/-- Every row of the reference's result holds the row's eight largest in order. -/
theorem refOut_isTop (r : Fin 256) : IsTop (fun i : Fin 32768 => (x (ix2 r i) : EReal)) fun j : Fin 8 => refOut x (ix2 r j) := by
  have h := isTop_sorted (k := 8) (by decide) (fun i : Fin 32768 => (x (ix2 r i) : EReal)) (source x r) (source_bijective x r) (source_sorted x r)
  rwa [show (fun j : Fin 8 => refOut x (ix2 r j)) = fun j : Fin 8 => x (ix2 r (source x r (j.castLE (by decide)))) from
    funext fun j => refOut_apply x r j]

end Cert.TopK

end
-- ==== Proof.Value.lean ====
module

public import proofs.«01_k».proof.Proof.Launch
public import proofs.«01_k».proof.Proof.Rounds
public import proofs.«01_k».proof.Proof.Reference
public import proofs.«01_k».proof.Defs
public import Idealize.ShloMosaic.Lib.Pipeline.Value

/-!
# The kernel's result is the reference's

Each device's candidates are the eight largest of every row of its block, in order; the merge of the thirty-two lists is
the eight largest of every row of the whole array, in order; and so is what the reference returns. Two such lists agree.
-/

@[expose] public section

noncomputable section

namespace Cert.TopK

open Cert.KernelIdeal Cert.KernelIdeal.Gen
open Idealize.ShloMosaic hiding ix1 ix2 ix3
open Idealize.ShloMosaic.TcCoe Idealize.ShloMosaic.ValueIdx Idealize.SL.Sem

/-! ## The two windows are their whole arrays -/

section Windows

variable {F : FTy → Type} [FloatOps F] [Named F]
variable (m : (ℓ : Loc nD τ sig) → Buf (Elt F) ℓ) (ρ : Dev nD → PrngReg)

theorem emb_in (i : S256x1024.Idx) : (win0_0.blk (0 : Fin 1)).view.emb i = i :=
  funext fun a => Fin.ext (win0_0.rect_emb_val_of_index_zero (0 : Fin 1) a rfl i)
theorem emb_out (i : S256x8.Idx) : (win0_1.blk (0 : Fin 1)).view.emb i = i :=
  funext fun a => Fin.ext (win0_1.rect_emb_val_of_index_zero (0 : Fin 1) a rfl i)

/-- What a device's body reads is its argument, -/
theorem xstg_eq (c : Dev nD) : xstg m ρ c = m ((c : Thread nD τ).loc main_arg0) :=
  funext fun i => congrArg (m ((c : Thread nD τ).loc main_arg0)) (emb_in i)

/-- and what it leaves is the whole result. -/
theorem finalA_out (c : Dev nD) : finalA m ρ c (1 : Fin 2) = outAt m ρ c := by
  funext i
  refine (congrArg (finalA m ρ c (1 : Fin 2)) (emb_out i).symm).trans ?_
  exact (dats (F := F) m ρ 0 c).arrAt_emb_eq_flushed (1 : Fin 2) (fun t t' _ _ h => absurd (Subsingleton.elim (α := Fin 1) t t') h)
    (0 : Fin 1) (flush0_1 _) i

end Windows

/-! ## The value -/

/-- The candidates of a block are the eight largest of its rows. -/
theorem candOf_isTop (x : Vec Ideal S256x1024 .f32) (r : Fin 256) :
    IsTop (fun i : Fin 1024 => (x (ix2 r i) : EReal)) fun j : Fin 8 => (candOf x (ix2 r j) : EReal) := by
  have h := topEight_isTop sides1024 (by decide) (by decide) x r
  rw [candOf_eq, shapeCast_self]
  exact h

variable (m : (ℓ : Loc nD τ sig) → Buf (Elt Ideal) ℓ) (ρ : Dev nD → PrngReg) (X : FVec Ideal ⟨2, ![256, 32768]⟩ .f32)

/-- Where every device holds its block of `X`, every device's result is the eight largest of `X`'s rows. -/
theorem outAt_isTop (hX : ∀ c : Dev nD, m ((c : Thread nD τ).loc main_arg0) = Layout.block ⟨2, ![256, 1024]⟩ ⟨2, ![256, 32768]⟩ 1 32 c X)
    (c : Dev nD) (r : Fin 256) :
    IsTop (fun i : Fin 32768 => (X (ix2 r i) : EReal)) fun j : Fin 8 => (outAt m ρ c (ix2 r j) : EReal) := by
  obtain ⟨g, hg⟩ : ∃ g : Dev nD → Vec Ideal S1x256x8 .f32, g = fun p => shapeCast S1x256x8 (cand m ρ p) shapeCasts_S256x8_S1x256x8 := ⟨_, rfl⟩
  have ho : outAt m ρ c = topEight sides256 256#32 (joined g) := by rw [hg]; exact mergeOf_eq _
  rw [ho]
  refine IsTop.merge (m := 32) (n := 1024) (fun i : Fin (32 * 1024) => (X (ix2 r i) : EReal)) (row (joined g) r : Fin (32 * 8) → EReal) _
    (fun p => ?_) (topEight_isTop sides256 (by decide) (by decide) (joined g) r)
  have hv : (fun i : Fin 1024 => (X (ix2 r (finProdFinEquiv (p, i) : Fin (32 * 1024))) : EReal)) = fun i : Fin 1024 => (xstg m ρ p (ix2 r i) : EReal) := by
    funext i
    rw [xstg_eq, hX p, Layout.block_apply]
    refine congrArg X (funext fun a => ?_)
    match a with
    | ⟨0, _⟩ => exact Fin.ext rfl
    | ⟨1, _⟩ => exact Fin.ext (by show i.val + 1024 * p.val = p.val * 1024 + i.val; omega)
  have hw : (fun j : Fin 8 => row (joined g) r (finProdFinEquiv (p, j) : Fin (32 * 8))) = fun j : Fin 8 => (cand m ρ p (ix2 r j) : EReal) := by
    funext j
    refine (joined_apply g r p j).trans ?_
    rw [hg]
    exact shapeCast_ab_1ab_apply (cand m ρ p) _ 0 r j
  rw [hv, hw]
  exact candOf_isTop (xstg m ρ p) r

/-- Every device's result is the reference's. -/
theorem outAt_eq (hX : ∀ c : Dev nD, m ((c : Thread nD τ).loc main_arg0) = Layout.block ⟨2, ![256, 1024]⟩ ⟨2, ![256, 32768]⟩ 1 32 c X)
    (c : Dev nD) : outAt m ρ c = refOut X := by
  funext i
  rw [ValueIdx.eq_ix2 i]
  exact congrFun ((outAt_isTop m ρ X hX c (i 0)).unique (refOut_isTop X (i 0))) (i 1)

/-- Where each device holds its block of the reference's argument, both programs run, and every device's result is the
    reference's. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, (θ_run Cert.KernelIdeal.defs _ _).mono (fun r h c => ⟨(((h.1 c (1 : Fin 2)).trans (finalA_out m g c)).trans
      (outAt_eq m g _ hm c)), (h.1 c (0 : Fin 2)).trans (finalA_x m g c)⟩) (run_main (F := Ideal) m g),
    (θ_run Cert.ReferenceIdeal.defs _ _).mono (fun r h => ⟨(h 0).1, (h 0).2⟩) (Cert.ReferenceIdeal.Value.run m' g')⟩

end Cert.TopK

end
-- ==== Proof.lean ====
module

public import proofs.«01_k».proof.Defs
public import proofs.«01_k».proof.Proof.Frames
public import proofs.«01_k».proof.Proof.Value

@[expose] public section

noncomputable section

namespace Cert.Proof

open Cert.TopK

theorem claim : Cert.Claim :=
  ⟨Cert.Kernel.Gen.facts, Cert.KernelIdeal.Gen.facts, Cert.ReferenceIdeal.Gen.facts,
    frame_kernel, frame_ideal, frame_reference, preserves, algebraic⟩

end Cert.Proof

end
